-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 2048]⟩ ⟨3, ![4, 2048, 2048]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x512 : Shape := ⟨2, ![2048, 512]⟩
abbrev S8x256x512 : Shape := ⟨3, ![8, 256, 512]⟩
abbrev S8x3x256x512 : Shape := ⟨4, ![8, 3, 256, 512]⟩
abbrev S8x3 : Shape := ⟨2, ![8, 3]⟩
abbrev S_ : Shape := ⟨0, ![]⟩
abbrev S1x256x512 : Shape := ⟨3, ![1, 256, 512]⟩
abbrev S256x512 : Shape := ⟨2, ![256, 512]⟩
abbrev S1x1 : Shape := ⟨2, ![1, 1]⟩
abbrev S1x1x256x512 : Shape := ⟨4, ![1, 1, 256, 512]⟩

abbrev nBuf : Space → Nat
  | .hbm => 2
  | .vmem => 4
  | .smem => 0
  | _ => 0

abbrev bufTy : (tb : Table) → Fin (tcTables nBuf tb) → BufTy
  | .hbm, ⟨0, _⟩ => ⟨S1x2048x2048, .bf16⟩
  | .hbm, ⟨1, _⟩ => ⟨S2048x512, .bf16⟩
  | .local _ .vmem, ⟨0, _⟩ => ⟨S1x2048x2048, .bf16⟩
  | .local _ .vmem, ⟨1, _⟩ => ⟨S2048x512, .bf16⟩
  | .local _ .vmem, ⟨2, _⟩ => ⟨S8x256x512, .bf16⟩
  | .local _ .vmem, ⟨3, _⟩ => ⟨S8x3x256x512, .bf16⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c1_i32_19 : BitVec 32) (c0_i32_20 : BitVec 32) : Fin 3 → Nat :=
  let c0 : Index := 0#32
  let c0_27 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : BitVec 32 := Scalar.subi v2 c1_i32_19
  let v31 : BitVec 32 := Scalar.subi v30 c0_i32_20
  let c4_i32_21 : BitVec 32 := 4#32
  let c0_i32_22 : BitVec 32 := 0#32
  let v32 : BitVec 1 := Scalar.cmpi .eq c4_i32_21 c0_i32_22
  let c1_i32_23 : BitVec 32 := 1#32
  let v33 : BitVec 32 := Scalar.select v32 c1_i32_23 c4_i32_21
  let v34 : BitVec 32 := Scalar.remsi v31 v33
  let c0_i32_25 : BitVec 32 := 0#32
  let v36 : BitVec 1 := Scalar.cmpi .slt v34 c0_i32_25
  let c0_i32_26 : BitVec 32 := 0#32
  let v37 : BitVec 1 := Scalar.cmpi .slt v33 c0_i32_26
  let v38 : BitVec 1 := Scalar.xori v36 v37
  let c0_i32_24 : BitVec 32 := 0#32
  let v35 : BitVec 1 := Scalar.cmpi .ne v34 c0_i32_24
  let v39 : BitVec 1 := Scalar.andi v38 v35
  let v40 : BitVec 32 := Scalar.addi v34 v33
  let v41 : BitVec 32 := Scalar.select v39 v40 v34
  let c512_i32 : BitVec 32 := 512#32
  let v42 : BitVec 32 := Scalar.muli v41 c512_i32
  let v43 : Index := Scalar.indexCast v42
  ![0, 0, v43.toNat]
def k0_off1_at (r : Fin 3) : BitVec 32 × BitVec 32 :=
  if r.val < 1 then
    (1#32, 0#32)
  else
    if r.val < 2 then
      (2#32, 0#32)
    else
      (2#32, 1#32)
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_38 : BitVec 32 := 1#32
  let v49 : BitVec 32 := Scalar.muli v24 c1_i32_38
  let v50 : BitVec 32 := Scalar.addi c0_i32_39 v49
  v50.toNat
def k0_off2 (d0 : Dev nD) (c1_i32_44 : BitVec 32) (c0_i32_45 : BitVec 32) : Fin 3 → Nat :=
  let c0_53 : Index := 0#32
  let c1024 : Index := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v59 : BitVec 32 := Scalar.addi v2 c1_i32_44
  let v60 : BitVec 32 := Scalar.addi v59 c0_i32_45
  let c4_i32_46 : BitVec 32 := 4#32
  let c0_i32_47 : BitVec 32 := 0#32
  let v61 : BitVec 1 := Scalar.cmpi .eq c4_i32_46 c0_i32_47
  let c1_i32_48 : BitVec 32 := 1#32
  let v62 : BitVec 32 := Scalar.select v61 c1_i32_48 c4_i32_46
  let v63 : BitVec 32 := Scalar.remsi v60 v62
  let c0_i32_50 : BitVec 32 := 0#32
  let v65 : BitVec 1 := Scalar.cmpi .slt v63 c0_i32_50
  let c0_i32_51 : BitVec 32 := 0#32
  let v66 : BitVec 1 := Scalar.cmpi .slt v62 c0_i32_51
  let v67 : BitVec 1 := Scalar.xori v65 v66
  let c0_i32_49 : BitVec 32 := 0#32
  let v64 : BitVec 1 := Scalar.cmpi .ne v63 c0_i32_49
  let v68 : BitVec 1 := Scalar.andi v67 v64
  let v69 : BitVec 32 := Scalar.addi v63 v62
  let v70 : BitVec 32 := Scalar.select v68 v69 v63
  let c512_i32_52 : BitVec 32 := 512#32
  let v71 : BitVec 32 := Scalar.muli v70 c512_i32_52
  let v72 : Index := Scalar.indexCast v71
  ![0, 1024, v72.toNat]
def k0_off2_at (r : Fin 3) : BitVec 32 × BitVec 32 :=
  if r.val < 1 then
    (1#32, 0#32)
  else
    if r.val < 2 then
      (2#32, 0#32)
    else
      (2#32, 1#32)
def k0_dev4 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_63 : BitVec 32 := 1#32
  let v78 : BitVec 32 := Scalar.muli v13 c1_i32_63
  let v79 : BitVec 32 := Scalar.addi c0_i32_64 v78
  v79.toNat
def k0_off3 (d0 : Dev nD) (c1_i32_69 : BitVec 32) (c0_i32_70 : BitVec 32) : Fin 3 → Nat :=
  let c0_78 : Index := 0#32
  let c256 : Index := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v88 : BitVec 32 := Scalar.subi v2 c1_i32_69
  let v89 : BitVec 32 := Scalar.subi v88 c0_i32_70
  let c4_i32_71 : BitVec 32 := 4#32
  let c0_i32_72 : BitVec 32 := 0#32
  let v90 : BitVec 1 := Scalar.cmpi .eq c4_i32_71 c0_i32_72
  let c1_i32_73 : BitVec 32 := 1#32
  let v91 : BitVec 32 := Scalar.select v90 c1_i32_73 c4_i32_71
  let v92 : BitVec 32 := Scalar.remsi v89 v91
  let c0_i32_75 : BitVec 32 := 0#32
  let v94 : BitVec 1 := Scalar.cmpi .slt v92 c0_i32_75
  let c0_i32_76 : BitVec 32 := 0#32
  let v95 : BitVec 1 := Scalar.cmpi .slt v91 c0_i32_76
  let v96 : BitVec 1 := Scalar.xori v94 v95
  let c0_i32_74 : BitVec 32 := 0#32
  let v93 : BitVec 1 := Scalar.cmpi .ne v92 c0_i32_74
  let v97 : BitVec 1 := Scalar.andi v96 v93
  let v98 : BitVec 32 := Scalar.addi v92 v91
  let v99 : BitVec 32 := Scalar.select v97 v98 v92
  let c512_i32_77 : BitVec 32 := 512#32
  let v100 : BitVec 32 := Scalar.muli v99 c512_i32_77
  let v101 : Index := Scalar.indexCast v100
  ![0, 256, v101.toNat]
def k0_off3_at (r : Fin 3) : BitVec 32 × BitVec 32 :=
  if r.val < 1 then
    (1#32, 0#32)
  else
    if r.val < 2 then
      (2#32, 0#32)
    else
      (2#32, 1#32)
def k0_dev5 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_88 : BitVec 32 := 1#32
  let v107 : BitVec 32 := Scalar.muli v24 c1_i32_88
  let v108 : BitVec 32 := Scalar.addi c0_i32_89 v107
  v108.toNat
def k0_off4 (d0 : Dev nD) (c1_i32_94 : BitVec 32) (c0_i32_95 : BitVec 32) : Fin 3 → Nat :=
  let c0_103 : Index := 0#32
  let c1280 : Index := 1280#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v117 : BitVec 32 := Scalar.addi v2 c1_i32_94
  let v118 : BitVec 32 := Scalar.addi v117 c0_i32_95
  let c4_i32_96 : BitVec 32 := 4#32
  let c0_i32_97 : BitVec 32 := 0#32
  let v119 : BitVec 1 := Scalar.cmpi .eq c4_i32_96 c0_i32_97
  let c1_i32_98 : BitVec 32 := 1#32
  let v120 : BitVec 32 := Scalar.select v119 c1_i32_98 c4_i32_96
  let v121 : BitVec 32 := Scalar.remsi v118 v120
  let c0_i32_100 : BitVec 32 := 0#32
  let v123 : BitVec 1 := Scalar.cmpi .slt v121 c0_i32_100
  let c0_i32_101 : BitVec 32 := 0#32
  let v124 : BitVec 1 := Scalar.cmpi .slt v120 c0_i32_101
  let v125 : BitVec 1 := Scalar.xori v123 v124
  let c0_i32_99 : BitVec 32 := 0#32
  let v122 : BitVec 1 := Scalar.cmpi .ne v121 c0_i32_99
  let v126 : BitVec 1 := Scalar.andi v125 v122
  let v127 : BitVec 32 := Scalar.addi v121 v120
  let v128 : BitVec 32 := Scalar.select v126 v127 v121
  let c512_i32_102 : BitVec 32 := 512#32
  let v129 : BitVec 32 := Scalar.muli v128 c512_i32_102
  let v130 : Index := Scalar.indexCast v129
  ![0, 1280, v130.toNat]
def k0_off4_at (r : Fin 3) : BitVec 32 × BitVec 32 :=
  if r.val < 1 then
    (1#32, 0#32)
  else
    if r.val < 2 then
      (2#32, 0#32)
    else
      (2#32, 1#32)
def k0_dev6 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_112 : BitVec 32 := 1#32
  let v136 : BitVec 32 := Scalar.muli v13 c1_i32_112
  let v137 : BitVec 32 := Scalar.addi c0_i32_113 v136
  v137.toNat
def k0_off5 (d0 : Dev nD) (c1_i32_118 : BitVec 32) (c0_i32_119 : BitVec 32) : Fin 3 → Nat :=
  let c0_127 : Index := 0#32
  let c512 : Index := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v146 : BitVec 32 := Scalar.subi v2 c1_i32_118
  let v147 : BitVec 32 := Scalar.subi v146 c0_i32_119
  let c4_i32_120 : BitVec 32 := 4#32
  let c0_i32_121 : BitVec 32 := 0#32
  let v148 : BitVec 1 := Scalar.cmpi .eq c4_i32_120 c0_i32_121
  let c1_i32_122 : BitVec 32 := 1#32
  let v149 : BitVec 32 := Scalar.select v148 c1_i32_122 c4_i32_120
  let v150 : BitVec 32 := Scalar.remsi v147 v149
  let c0_i32_124 : BitVec 32 := 0#32
  let v152 : BitVec 1 := Scalar.cmpi .slt v150 c0_i32_124
  let c0_i32_125 : BitVec 32 := 0#32
  let v153 : BitVec 1 := Scalar.cmpi .slt v149 c0_i32_125
  let v154 : BitVec 1 := Scalar.xori v152 v153
  let c0_i32_123 : BitVec 32 := 0#32
  let v151 : BitVec 1 := Scalar.cmpi .ne v150 c0_i32_123
  let v155 : BitVec 1 := Scalar.andi v154 v151
  let v156 : BitVec 32 := Scalar.addi v150 v149
  let v157 : BitVec 32 := Scalar.select v155 v156 v150
  let c512_i32_126 : BitVec 32 := 512#32
  let v158 : BitVec 32 := Scalar.muli v157 c512_i32_126
  let v159 : Index := Scalar.indexCast v158
  ![0, 512, v159.toNat]
def k0_off5_at (r : Fin 3) : BitVec 32 × BitVec 32 :=
  if r.val < 1 then
    (1#32, 0#32)
  else
    if r.val < 2 then
      (2#32, 0#32)
    else
      (2#32, 1#32)
def k0_dev7 (d0 : Dev nD) : Nat :=
  let c0_i32_138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_137 : BitVec 32 := 1#32
  let v165 : BitVec 32 := Scalar.muli v24 c1_i32_137
  let v166 : BitVec 32 := Scalar.addi c0_i32_138 v165
  v166.toNat
def k0_off6 (d0 : Dev nD) (c1_i32_143 : BitVec 32) (c0_i32_144 : BitVec 32) : Fin 3 → Nat :=
  let c0_152 : Index := 0#32
  let c1536 : Index := 1536#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v175 : BitVec 32 := Scalar.addi v2 c1_i32_143
  let v176 : BitVec 32 := Scalar.addi v175 c0_i32_144
  let c4_i32_145 : BitVec 32 := 4#32
  let c0_i32_146 : BitVec 32 := 0#32
  let v177 : BitVec 1 := Scalar.cmpi .eq c4_i32_145 c0_i32_146
  let c1_i32_147 : BitVec 32 := 1#32
  let v178 : BitVec 32 := Scalar.select v177 c1_i32_147 c4_i32_145
  let v179 : BitVec 32 := Scalar.remsi v176 v178
  let c0_i32_149 : BitVec 32 := 0#32
  let v181 : BitVec 1 := Scalar.cmpi .slt v179 c0_i32_149
  let c0_i32_150 : BitVec 32 := 0#32
  let v182 : BitVec 1 := Scalar.cmpi .slt v178 c0_i32_150
  let v183 : BitVec 1 := Scalar.xori v181 v182
  let c0_i32_148 : BitVec 32 := 0#32
  let v180 : BitVec 1 := Scalar.cmpi .ne v179 c0_i32_148
  let v184 : BitVec 1 := Scalar.andi v183 v180
  let v185 : BitVec 32 := Scalar.addi v179 v178
  let v186 : BitVec 32 := Scalar.select v184 v185 v179
  let c512_i32_151 : BitVec 32 := 512#32
  let v187 : BitVec 32 := Scalar.muli v186 c512_i32_151
  let v188 : Index := Scalar.indexCast v187
  ![0, 1536, v188.toNat]
def k0_off6_at (r : Fin 3) : BitVec 32 × BitVec 32 :=
  if r.val < 1 then
    (1#32, 0#32)
  else
    if r.val < 2 then
      (2#32, 0#32)
    else
      (2#32, 1#32)
def k0_dev8 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_161 : BitVec 32 := 1#32
  let v194 : BitVec 32 := Scalar.muli v13 c1_i32_161
  let v195 : BitVec 32 := Scalar.addi c0_i32_162 v194
  v195.toNat
def k0_off7 (d0 : Dev nD) (c1_i32_167 : BitVec 32) (c0_i32_168 : BitVec 32) : Fin 3 → Nat :=
  let c0_176 : Index := 0#32
  let c768 : Index := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v204 : BitVec 32 := Scalar.subi v2 c1_i32_167
  let v205 : BitVec 32 := Scalar.subi v204 c0_i32_168
  let c4_i32_169 : BitVec 32 := 4#32
  let c0_i32_170 : BitVec 32 := 0#32
  let v206 : BitVec 1 := Scalar.cmpi .eq c4_i32_169 c0_i32_170
  let c1_i32_171 : BitVec 32 := 1#32
  let v207 : BitVec 32 := Scalar.select v206 c1_i32_171 c4_i32_169
  let v208 : BitVec 32 := Scalar.remsi v205 v207
  let c0_i32_173 : BitVec 32 := 0#32
  let v210 : BitVec 1 := Scalar.cmpi .slt v208 c0_i32_173
  let c0_i32_174 : BitVec 32 := 0#32
  let v211 : BitVec 1 := Scalar.cmpi .slt v207 c0_i32_174
  let v212 : BitVec 1 := Scalar.xori v210 v211
  let c0_i32_172 : BitVec 32 := 0#32
  let v209 : BitVec 1 := Scalar.cmpi .ne v208 c0_i32_172
  let v213 : BitVec 1 := Scalar.andi v212 v209
  let v214 : BitVec 32 := Scalar.addi v208 v207
  let v215 : BitVec 32 := Scalar.select v213 v214 v208
  let c512_i32_175 : BitVec 32 := 512#32
  let v216 : BitVec 32 := Scalar.muli v215 c512_i32_175
  let v217 : Index := Scalar.indexCast v216
  ![0, 768, v217.toNat]
def k0_off7_at (r : Fin 3) : BitVec 32 × BitVec 32 :=
  if r.val < 1 then
    (1#32, 0#32)
  else
    if r.val < 2 then
      (2#32, 0#32)
    else
      (2#32, 1#32)
def k0_dev9 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_185 : BitVec 32 := 1#32
  let v223 : BitVec 32 := Scalar.muli v24 c1_i32_185
  let v224 : BitVec 32 := Scalar.addi c0_i32_186 v223
  v224.toNat
def k0_off8 (d0 : Dev nD) (c1_i32_191 : BitVec 32) (c0_i32_192 : BitVec 32) : Fin 3 → Nat :=
  let c0_200 : Index := 0#32
  let c1792 : Index := 1792#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v233 : BitVec 32 := Scalar.addi v2 c1_i32_191
  let v234 : BitVec 32 := Scalar.addi v233 c0_i32_192
  let c4_i32_193 : BitVec 32 := 4#32
  let c0_i32_194 : BitVec 32 := 0#32
  let v235 : BitVec 1 := Scalar.cmpi .eq c4_i32_193 c0_i32_194
  let c1_i32_195 : BitVec 32 := 1#32
  let v236 : BitVec 32 := Scalar.select v235 c1_i32_195 c4_i32_193
  let v237 : BitVec 32 := Scalar.remsi v234 v236
  let c0_i32_197 : BitVec 32 := 0#32
  let v239 : BitVec 1 := Scalar.cmpi .slt v237 c0_i32_197
  let c0_i32_198 : BitVec 32 := 0#32
  let v240 : BitVec 1 := Scalar.cmpi .slt v236 c0_i32_198
  let v241 : BitVec 1 := Scalar.xori v239 v240
  let c0_i32_196 : BitVec 32 := 0#32
  let v238 : BitVec 1 := Scalar.cmpi .ne v237 c0_i32_196
  let v242 : BitVec 1 := Scalar.andi v241 v238
  let v243 : BitVec 32 := Scalar.addi v237 v236
  let v244 : BitVec 32 := Scalar.select v242 v243 v237
  let c512_i32_199 : BitVec 32 := 512#32
  let v245 : BitVec 32 := Scalar.muli v244 c512_i32_199
  let v246 : Index := Scalar.indexCast v245
  ![0, 1792, v246.toNat]
def k0_off8_at (r : Fin 3) : BitVec 32 × BitVec 32 :=
  if r.val < 1 then
    (1#32, 0#32)
  else
    if r.val < 2 then
      (2#32, 0#32)
    else
      (2#32, 1#32)
def k0_dev10 (d0 : Dev nD) : Nat :=
  let c0_i32_210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_209 : BitVec 32 := 1#32
  let v252 : BitVec 32 := Scalar.muli v13 c1_i32_209
  let v253 : BitVec 32 := Scalar.addi c0_i32_210 v252
  v253.toNat
def k0_dev11 (d0 : Dev nD) : Nat :=
  let c0_i32_266 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_265 : BitVec 32 := 1#32
  let v298 : BitVec 32 := Scalar.muli v24 c1_i32_265
  let v299 : BitVec 32 := Scalar.addi c0_i32_266 v298
  v299.toNat
def k0_dev12 (d0 : Dev nD) : Nat :=
  let c0_i32_322 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_321 : BitVec 32 := 1#32
  let v344 : BitVec 32 := Scalar.muli v13 c1_i32_321
  let v345 : BitVec 32 := Scalar.addi c0_i32_322 v344
  v345.toNat
def k0_dev13 (d0 : Dev nD) : Nat :=
  let c0_i32_378 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_377 : BitVec 32 := 1#32
  let v390 : BitVec 32 := Scalar.muli v24 c1_i32_377
  let v391 : BitVec 32 := Scalar.addi c0_i32_378 v390
  v391.toNat
def k0_dev14 (d0 : Dev nD) : Nat :=
  let c0_i32_434 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_433 : BitVec 32 := 1#32
  let v436 : BitVec 32 := Scalar.muli v13 c1_i32_433
  let v437 : BitVec 32 := Scalar.addi c0_i32_434 v436
  v437.toNat
def k0_dev15 (d0 : Dev nD) : Nat :=
  let c0_i32_490 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_489 : BitVec 32 := 1#32
  let v482 : BitVec 32 := Scalar.muli v24 c1_i32_489
  let v483 : BitVec 32 := Scalar.addi c0_i32_490 v482
  v483.toNat
def k0_dev16 (d0 : Dev nD) : Nat :=
  let c0_i32_546 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_545 : BitVec 32 := 1#32
  let v528 : BitVec 32 := Scalar.muli v13 c1_i32_545
  let v529 : BitVec 32 := Scalar.addi c0_i32_546 v528
  v529.toNat
def k0_dev17 (d0 : Dev nD) : Nat :=
  let c0_i32_602 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_601 : BitVec 32 := 1#32
  let v574 : BitVec 32 := Scalar.muli v24 c1_i32_601
  let v575 : BitVec 32 := Scalar.addi c0_i32_602 v574
  v575.toNat
def k0_dev18 (d0 : Dev nD) : Nat :=
  let c0_i32_658 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_657 : BitVec 32 := 1#32
  let v620 : BitVec 32 := Scalar.muli v13 c1_i32_657
  let v621 : BitVec 32 := Scalar.addi c0_i32_658 v620
  v621.toNat
def k0_dev19 (d0 : Dev nD) : Nat :=
  let c0_i32_714 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_713 : BitVec 32 := 1#32
  let v666 : BitVec 32 := Scalar.muli v24 c1_i32_713
  let v667 : BitVec 32 := Scalar.addi c0_i32_714 v666
  v667.toNat
def k0_dev20 (d0 : Dev nD) : Nat :=
  let c0_i32_770 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_769 : BitVec 32 := 1#32
  let v712 : BitVec 32 := Scalar.muli v13 c1_i32_769
  let v713 : BitVec 32 := Scalar.addi c0_i32_770 v712
  v713.toNat
def k0_dev21 (d0 : Dev nD) : Nat :=
  let c0_i32_826 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_825 : BitVec 32 := 1#32
  let v758 : BitVec 32 := Scalar.muli v24 c1_i32_825
  let v759 : BitVec 32 := Scalar.addi c0_i32_826 v758
  v759.toNat
def k0_dev22 (d0 : Dev nD) : Nat :=
  let c0_i32_882 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_881 : BitVec 32 := 1#32
  let v804 : BitVec 32 := Scalar.muli v13 c1_i32_881
  let v805 : BitVec 32 := Scalar.addi c0_i32_882 v804
  v805.toNat
def k0_dev23 (d0 : Dev nD) : Nat :=
  let c0_i32_938 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_937 : BitVec 32 := 1#32
  let v850 : BitVec 32 := Scalar.muli v24 c1_i32_937
  let v851 : BitVec 32 := Scalar.addi c0_i32_938 v850
  v851.toNat
def k0_dev24 (d0 : Dev nD) : Nat :=
  let c0_i32_994 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_993 : BitVec 32 := 1#32
  let v896 : BitVec 32 := Scalar.muli v13 c1_i32_993
  let v897 : BitVec 32 := Scalar.addi c0_i32_994 v896
  v897.toNat
def k0_dev25 (d0 : Dev nD) : Nat :=
  let c0_i32_1050 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1049 : BitVec 32 := 1#32
  let v942 : BitVec 32 := Scalar.muli v24 c1_i32_1049
  let v943 : BitVec 32 := Scalar.addi c0_i32_1050 v942
  v943.toNat
def k0_dev26 (d0 : Dev nD) : Nat :=
  let c0_i32_1106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1105 : BitVec 32 := 1#32
  let v988 : BitVec 32 := Scalar.muli v13 c1_i32_1105
  let v989 : BitVec 32 := Scalar.addi c0_i32_1106 v988
  v989.toNat
def k0_off9 (d0 : Dev nD) : Fin 3 → Nat :=
  let c0_1141 : Index := 0#32
  let c0_1142 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1140 : BitVec 32 := 512#32
  let v1014 : BitVec 32 := Scalar.muli v2 c512_i32_1140
  let v1015 : Index := Scalar.indexCast v1014
  ![0, 0, v1015.toNat]
def k0_off10 (d0 : Dev nD) : Fin 3 → Nat :=
  let c0_1175 : Index := 0#32
  let c1024_1176 : Index := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1174 : BitVec 32 := 512#32
  let v1036 : BitVec 32 := Scalar.muli v2 c512_i32_1174
  let v1037 : Index := Scalar.indexCast v1036
  ![0, 1024, v1037.toNat]
def k0_off11 (d0 : Dev nD) : Fin 3 → Nat :=
  let c0_1209 : Index := 0#32
  let c256_1210 : Index := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1208 : BitVec 32 := 512#32
  let v1058 : BitVec 32 := Scalar.muli v2 c512_i32_1208
  let v1059 : Index := Scalar.indexCast v1058
  ![0, 256, v1059.toNat]
def k0_off12 (d0 : Dev nD) : Fin 3 → Nat :=
  let c0_1243 : Index := 0#32
  let c1280_1244 : Index := 1280#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1242 : BitVec 32 := 512#32
  let v1080 : BitVec 32 := Scalar.muli v2 c512_i32_1242
  let v1081 : Index := Scalar.indexCast v1080
  ![0, 1280, v1081.toNat]
def k0_off13 (d0 : Dev nD) : Fin 3 → Nat :=
  let c0_1277 : Index := 0#32
  let c512_1278 : Index := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1276 : BitVec 32 := 512#32
  let v1102 : BitVec 32 := Scalar.muli v2 c512_i32_1276
  let v1103 : Index := Scalar.indexCast v1102
  ![0, 512, v1103.toNat]
def k0_off14 (d0 : Dev nD) : Fin 3 → Nat :=
  let c0_1311 : Index := 0#32
  let c1536_1312 : Index := 1536#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1310 : BitVec 32 := 512#32
  let v1124 : BitVec 32 := Scalar.muli v2 c512_i32_1310
  let v1125 : Index := Scalar.indexCast v1124
  ![0, 1536, v1125.toNat]
def k0_off15 (d0 : Dev nD) : Fin 3 → Nat :=
  let c0_1345 : Index := 0#32
  let c768_1346 : Index := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1344 : BitVec 32 := 512#32
  let v1146 : BitVec 32 := Scalar.muli v2 c512_i32_1344
  let v1147 : Index := Scalar.indexCast v1146
  ![0, 768, v1147.toNat]
def k0_off16 (d0 : Dev nD) : Fin 3 → Nat :=
  let c0_1379 : Index := 0#32
  let c1792_1380 : Index := 1792#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1378 : BitVec 32 := 512#32
  let v1168 : BitVec 32 := Scalar.muli v2 c512_i32_1378
  let v1169 : Index := Scalar.indexCast v1168
  ![0, 1792, v1169.toNat]
abbrev stage0_0 : Fin 1 → Memref sig .tc .vmem S1x2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x2048x2048 : Shape := ⟨3, ![4, 2048, 2048]⟩
abbrev S_ : Shape := ⟨0, ![]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .f32⟩
  | .hbm, ⟨2, _⟩ => ⟨S_, .f32⟩
  | .hbm, ⟨3, _⟩ => ⟨S2048x2048, .f32⟩
  | .hbm, ⟨4, _⟩ => ⟨S2048x2048, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Steps.lean ====
/-
# The kernel's body as four rounds of one step each

The printed body is one long sequence of memory operations. Here it is written as what it is: an entry handshake, then
four passes over the eight row blocks in the order `order` — `stepA` loads a block of `x` and sends it, `stepB` (twice)
waits for the neighbour's partial sum, adds this device's block to it and sends the sum on, `stepC` adds the last block
and stores the result. `body_eq` says that the printed body is that program.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.ReduceScatter

open Cert.KernelIdeal Cert.KernelIdeal.Gen
open Idealize.ShloMosaic Idealize.ShloMosaic.TcCoe Idealize.SL.Sem

variable {F : FTy → Type} [FloatOps F]

/-! ## The ring, and where each row block travels -/

/-- The device after `c`. -/
def nxt (c : Dev nD) : Dev nD := ⟨(c.val + 1) % 4, Nat.mod_lt _ (by decide)⟩
/-- The device before `c`. -/
def prv (c : Dev nD) : Dev nD := ⟨(c.val + 3) % 4, Nat.mod_lt _ (by decide)⟩

/-- Row blocks 0 to 3 travel to the next device, row blocks 4 to 7 to the one before. -/
def fwd (p : Fin 8) : Bool := decide (p.val < 4)
/-- Where device `c` sends row block `p`. -/
def tgt (c : Dev nD) (p : Fin 8) : Dev nD := if fwd p then nxt c else prv c
/-- Where device `c` receives row block `p` from. -/
def src (c : Dev nD) (p : Fin 8) : Dev nD := if fwd p then prv c else nxt c
/-- The column block of row block `p` that device `c` adds at its `k`-th pass. -/
def chunk (c : Dev nD) (p : Fin 8) (k : Fin 4) : Fin 4 :=
  if fwd p then ⟨(c.val + 7 - k.val) % 4, Nat.mod_lt _ (by decide)⟩ else ⟨(c.val + 1 + k.val) % 4, Nat.mod_lt _ (by decide)⟩

theorem tgt_src (c : Dev nD) (p : Fin 8) : tgt (src c p) p = c := by revert c p; decide
theorem src_tgt (c : Dev nD) (p : Fin 8) : src (tgt c p) p = c := by revert c p; decide

/-! ## The offsets and devices the printed body computes -/

/-- The offset of the block of `x` read at a pass other than the last, its two constants as parameters. -/
def startOff (c : Dev nD) (a b : BitVec 32) (p : Fin 8) : Fin 3 → ℕ :=
  match p with
  | 0 => k0_off1 c a b | 1 => k0_off3 c a b | 2 => k0_off5 c a b | 3 => k0_off7 c a b
  | 4 => k0_off2 c a b | 5 => k0_off4 c a b | 6 => k0_off6 c a b | 7 => k0_off8 c a b

/-- The offset of the block of `x` read at the last pass. -/
def lastOff (c : Dev nD) (p : Fin 8) : Fin 3 → ℕ :=
  match p with
  | 0 => k0_off9 c | 1 => k0_off11 c | 2 => k0_off13 c | 3 => k0_off15 c
  | 4 => k0_off10 c | 5 => k0_off12 c | 6 => k0_off14 c | 7 => k0_off16 c

/-- The offset of the block of `x` that device `c` reads for row block `p` at pass `k`. -/
def offOf (c : Dev nD) (p : Fin 8) (k : Fin 4) : Fin 3 → ℕ :=
  match k with
  | 0 => startOff c 1#32 0#32 p | 1 => startOff c 2#32 0#32 p | 2 => startOff c 2#32 1#32 p | 3 => lastOff c p

/-- The device the transfer of row block `p` at pass `s` is addressed to, as the body computes it. -/
def devOf (c : Dev nD) (p : Fin 8) (s : Fin 3) : ℕ :=
  match s, p with
  | 0, 0 => k0_dev3 c | 0, 4 => k0_dev4 c | 0, 1 => k0_dev5 c | 0, 5 => k0_dev6 c
  | 0, 2 => k0_dev7 c | 0, 6 => k0_dev8 c | 0, 3 => k0_dev9 c | 0, 7 => k0_dev10 c
  | 1, 0 => k0_dev11 c | 1, 4 => k0_dev12 c | 1, 1 => k0_dev13 c | 1, 5 => k0_dev14 c
  | 1, 2 => k0_dev15 c | 1, 6 => k0_dev16 c | 1, 3 => k0_dev17 c | 1, 7 => k0_dev18 c
  | 2, 0 => k0_dev19 c | 2, 4 => k0_dev20 c | 2, 1 => k0_dev21 c | 2, 5 => k0_dev22 c
  | 2, 2 => k0_dev23 c | 2, 6 => k0_dev24 c | 2, 3 => k0_dev25 c | 2, 7 => k0_dev26 c

theorem offOf_eq : ∀ (c : Dev nD) (p : Fin 8) (k : Fin 4), offOf c p k = ![0, 256 * p.val, 512 * (chunk c p k).val] := by
  decide +kernel
theorem devOf_eq : ∀ (c : Dev nD) (p : Fin 8) (s : Fin 3), devOf c p s = (tgt c p).val := by decide +kernel
theorem devOf_lt (c : Dev nD) (p : Fin 8) (s : Fin 3) : devOf c p s < nD := by rw [devOf_eq]; exact (tgt c p).isLt
theorem dev_eq (c : Dev nD) (p : Fin 8) (s : Fin 3) : (⟨devOf c p s, devOf_lt c p s⟩ : Dev nD) = tgt c p := Fin.ext (devOf_eq c p s)
theorem dev1_eq (c : Dev nD) : (⟨k0_dev1 c, k0_dev1_lt c⟩ : Dev nD) = prv c := Fin.ext ((by decide +kernel : ∀ c, k0_dev1 c = (prv c).val) c)
theorem dev2_eq (c : Dev nD) : (⟨k0_dev2 c, k0_dev2_lt c⟩ : Dev nD) = nxt c := Fin.ext ((by decide +kernel : ∀ c, k0_dev2 c = (nxt c).val) c)

theorem offOf_inb (c : Dev nD) (p : Fin 8) (k : Fin 4) : ∀ a, offOf c p k a + S1x256x512.size a ≤ S1x2048x2048.size a := by
  rw [offOf_eq]; revert p; revert c; revert k; decide +kernel

/-! ## The buffers, their slabs, the semaphores -/

abbrev xM : Memref sig .tc .vmem S1x2048x2048 .bf16 := Memref.whole cc0_stg0_0
abbrev oM : Memref sig .tc .vmem S2048x512 .bf16 := Memref.whole cc0_stg1_0
abbrev aM : Memref sig .tc .vmem S8x256x512 .bf16 := Memref.whole cc0_scratch0
abbrev rM : Memref sig .tc .vmem S8x3x256x512 .bf16 := Memref.whole cc0_scratch1

theorem aInb : ∀ (p : Fin 8) a, (![p.val, 0, 0] : Fin 3 → ℕ) a + S1x256x512.size a ≤ S8x256x512.size a := by decide
theorem rInb : ∀ (p : Fin 8) (s : Fin 3) a, (![p.val, s.val, 0, 0] : Fin 4 → ℕ) a + S1x1x256x512.size a ≤ S8x3x256x512.size a := by decide
theorem oInb : ∀ (p : Fin 8) a, (![256 * p.val, 0] : Fin 2 → ℕ) a + S256x512.size a ≤ S2048x512.size a := by decide
theorem sInb : ∀ (p : Fin 8) (s : Fin 3) a, (![p.val, s.val] : Fin 2 → ℕ) a + S1x1.size a ≤ S8x3.size a := by decide

/-- The block of `x` at an offset; -/
abbrev xRect (off : Fin 3 → ℕ) (h : ∀ a, off a + S1x256x512.size a ≤ S1x2048x2048.size a) : Rect S1x2048x2048 :=
  Rect.unit (s := S1x2048x2048) off S1x256x512.size h
/-- slab `p` of the buffer of partial sums; -/
abbrev aRect (p : Fin 8) : Rect S8x256x512 := Rect.unit (s := S8x256x512) ![p.val, 0, 0] S1x256x512.size (aInb p)
/-- slab `(p, s)` of the receive buffer; -/
abbrev rRect (p : Fin 8) (s : Fin 3) : Rect S8x3x256x512 := Rect.unit (s := S8x3x256x512) ![p.val, s.val, 0, 0] S1x1x256x512.size (rInb p s)
/-- row block `p` of the result. -/
abbrev oRect (p : Fin 8) : Rect S2048x512 := Rect.unit (s := S2048x512) ![256 * p.val, 0] S256x512.size (oInb p)

abbrev aSlab (p : Fin 8) : Memref sig .tc .vmem S256x512 .bf16 :=
  (aM.slice (aRect p) (fun _ => rfl)).squeeze S256x512 squeezes_S1x256x512_S256x512
abbrev rSlab (p : Fin 8) (s : Fin 3) : Memref sig .tc .vmem S256x512 .bf16 :=
  (rM.slice (rRect p s) (fun _ => rfl)).squeeze S256x512 squeezes_S1x1x256x512_S256x512

/-- The semaphore that counts the departure of row block `p` at pass `s`, and the one that counts its arrival. -/
abbrev sendS (p : Fin 8) (s : Fin 3) : DmaSem sig :=
  ((cc0_scratch2.slice (Rect.unit (s := S8x3) ![p.val, s.val] S1x1.size (sInb p s))).squeeze S_ squeezes_S1x1_S_).sem
abbrev recvS (p : Fin 8) (s : Fin 3) : DmaSem sig :=
  ((cc0_scratch3.slice (Rect.unit (s := S8x3) ![p.val, s.val] S1x1.size (sInb p s))).squeeze S_ squeezes_S1x1_S_).sem
/-- The barrier semaphore of the entry handshake. -/
abbrev barS : Sem sig := (SemArray.scalar (sig.barrier 0 rfl) : Sems sig S_).sem

/-! ## The stores and transfers are of whole packed words -/

theorem aPacked : ∀ p : Fin 8, (aRect p).PackedRows (EltTy.packing .bf16) := by decide
theorem oPacked : ∀ p : Fin 8, (oRect p).PackedRows (EltTy.packing .bf16) := by decide
theorem aWords : ∀ p : Fin 8, (aRect p).WholeWords (EltTy.packing .bf16) := by decide
theorem rWords : ∀ (p : Fin 8) (s : Fin 3), (rRect p s).WholeWords (EltTy.packing .bf16) := by decide

theorem aStores (p : Fin 8) : (aM.access (aRect p)).Stores Finset.univ :=
  View.stores_vmem h_S1x256x512 ((Memref.isWhole_whole cc0_scratch0).storeExact_slice rfl _ (aPacked p)) (fun _ => rfl)
theorem oStores (p : Fin 8) : (oM.access (oRect p)).Stores Finset.univ :=
  View.stores_vmem h_S256x512 ((Memref.isWhole_whole cc0_stg1_0).storeExact_slice rfl _ (oPacked p)) (fun _ => rfl)
theorem aExact (p : Fin 8) : (aSlab p).view.WordExact :=
  ((Memref.isWhole_whole cc0_scratch0).wordExact_slice rfl _ (aWords p)).reshape _ _
theorem rExact (p : Fin 8) (s : Fin 3) : (rSlab p s).view.WordExact :=
  ((Memref.isWhole_whole cc0_scratch1).wordExact_slice rfl _ (rWords p s)).reshape _ _

/-! ## The steps -/

abbrev TcProg (F : FTy → Type) [FloatOps F] : Type 1 := Prog (TpuEff nD τ sig (Elt F) Λ₀ .tc) PUnit

/-- A block of `x` as a matrix; -/
def asMat (x : Vec F S1x256x512 .bf16) : FVec F S256x512 .bf16 := shapeCast S256x512 x shapeCasts_S1x256x512_S256x512
/-- a slab of the receive buffer as a matrix; -/
def recvMat (x : Vec F S1x1x256x512 .bf16) : FVec F S256x512 .bf16 := shapeCast S256x512 x shapeCasts_S1x1x256x512_S256x512
/-- a matrix as a slab of the buffer of partial sums. -/
def asSlab (x : FVec F S256x512 .bf16) : FVec F S1x256x512 .bf16 := shapeCast S1x256x512 x shapeCasts_S256x512_S1x256x512

/-- Transfer slab `p` of the partial sums to slab `(p, s)` of device `n`'s receive buffer. -/
def send (p : Fin 8) (s : Fin 3) (n : Dev nD) (k : TcProg F) : TcProg F :=
  .op (.enqueueDma (aSlab p) (.remote (Dev.tc n) (rSlab p s) (.dma (sendS p s))) (.dma (recvS p s)) (aExact p) (rExact p s)
    ⟨⟨rfl, Or.inl rfl⟩, trivial⟩) fun _ => k

/-- Wait for the departure of row block `p`'s transfer at pass `s`, then for the arrival of the neighbour's. -/
def await (p : Fin 8) (s : Fin 3) (k : TcProg F) : TcProg F :=
  .op (.waitDma2 (sendS p s) (rSlab p s) (aSlab p) (rExact p s) (aExact p)) fun _ =>
  .op (.waitDma2 (recvS p s) (aSlab p) (rSlab p s) (aExact p) (rExact p s)) fun _ => k

/-- Load slab `p` of the partial sums (the loaded value is not used) and store `v` there. -/
def put (p : Fin 8) (v : FVec F S256x512 .bf16) (k : TcProg F) : TcProg F :=
  .op (.load aM (aRect p).toLoadRect (View.loadsAt_vmem h_S1x256x512)) fun _ =>
  .op (.store aM (aRect p) (asSlab v) Finset.univ (aStores p) (.inl rfl)) fun _ => k

/-- Load row block `p`'s block of `x` at pass `k`. -/
def getX (c : Dev nD) (p : Fin 8) (i : Fin 4) (k : Vec F S1x256x512 .bf16 → TcProg F) : TcProg F :=
  .op (.load xM (xRect (offOf c p i) (offOf_inb c p i)).toLoadRect (View.loadsAt_vmem h_S1x256x512)) k

/-- The first pass over row block `p`: this device's block is sent. -/
def stepA (c : Dev nD) (p : Fin 8) (k : TcProg F) : TcProg F :=
  getX c p 0 fun x => put p (asMat x) <| send p 0 ⟨devOf c p 0, devOf_lt c p 0⟩ k

/-- A middle pass over row block `p`: the sum that arrived at pass `s` and this device's block, sent on at pass `s'`. -/
def stepB (s s' : Fin 3) (c : Dev nD) (p : Fin 8) (k : TcProg F) : TcProg F :=
  await p s <|
  .op (.load rM (rRect p s).toLoadRect (View.loadsAt_vmem h_S1x1x256x512)) fun r =>
  getX c p s'.castSucc fun x => put p (addf (recvMat r) (asMat x)) <| send p s' ⟨devOf c p s', devOf_lt c p s'⟩ k

/-- The last pass over row block `p`: the sum that arrived and this device's block are the result's row block `p`. -/
def stepC (c : Dev nD) (p : Fin 8) (k : TcProg F) : TcProg F :=
  await p 2 <|
  .op (.load rM (rRect p 2).toLoadRect (View.loadsAt_vmem h_S1x1x256x512)) fun r =>
  getX c p 3 fun x =>
  .op (.load oM (oRect p).toLoadRect (View.loadsAt_vmem h_S256x512)) fun _ =>
  .op (.store oM (oRect p) (addf (recvMat r) (asMat x)) Finset.univ (oStores p) (.inl rfl)) fun _ => k

/-- The order in which a pass visits the row blocks. -/
def order : List (Fin 8) := [0, 4, 1, 5, 2, 6, 3, 7]

/-- The four passes. -/
def passes (c : Dev nD) : TcProg F :=
  order.foldr (stepA c) <| order.foldr (stepB 0 1 c) <| order.foldr (stepB 1 2 c) <| order.foldr (stepC c) <| .ret ⟨⟩

/-- The body: signal both neighbours, wait for both, then the four passes. -/
def body : TcProg F :=
  .op .deviceId fun c => do
    semSignalWord (⟨k0_dev1 c, k0_dev1_lt c⟩ : Dev nD) barS 1#32
    semSignalWord (⟨k0_dev2 c, k0_dev2_lt c⟩ : Dev nD) barS 1#32
    semWaitWord barS 2#32
    passes c

set_option maxRecDepth 65536 in
set_option maxHeartbeats 0 in
theorem body_eq : cc0_body (F := F) xM (Memref.isWhole_whole _) oM (Memref.isWhole_whole _) aM (Memref.isWhole_whole _)
    rM (Memref.isWhole_whole _) cc0_scratch2 cc0_scratch3 = body := rfl

end Cert.ReduceScatter

end
-- ==== Proof.Proto.lean ====
/-
# The handshake and the transfers as a schedule

Each device has one barrier cell, and for each row block `p` and pass `s` one departure cell and one arrival cell. Every
cell is used for one round. The barrier cell of a device is raised once by each of its neighbours; a neighbour's raise hands
over the slabs of its receive buffer that this device will fill. A departure hands the device its own slab of partial sums
back; an arrival hands it its own slab of the receive buffer, now holding the neighbour's partial sum `acc`.
-/
module

public import proofs.«01_k».proof.Proof.Steps
public import Idealize.ShloMosaic.Lib.Pipeline.Launch
public import Idealize.ShloMosaic.Lib.Pipeline.Kit
public import Idealize.ShloMosaic.Lib.Tactic

@[expose] public section

noncomputable section

namespace Cert.ReduceScatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring -/

theorem prv_nxt (c : Dev nD) : prv (nxt c) = c := by revert c; decide
theorem nxt_prv (c : Dev nD) : nxt (prv c) = c := by revert c; decide
theorem nxt_ne_prv (c : Dev nD) : nxt c ≠ prv c := by revert c; decide

/-- The rotation of the ring. -/
def ring : Dev nD ≃ Dev nD := ⟨nxt, prv, prv_nxt, nxt_prv⟩
/-- Where each device's row blocks travel. -/
def route : Dev nD × Fin 8 ≃ Dev nD × Fin 8 :=
  ⟨fun a => (tgt a.1 a.2, a.2), fun a => (src a.1 a.2, a.2), fun a => Prod.ext (src_tgt a.1 a.2) rfl, fun a => Prod.ext (tgt_src a.1 a.2) rfl⟩

/-! ## The cells -/

/-- The cells of one device: `none` its barrier cell, `(false, p, s)` a departure cell, `(true, p, s)` an arrival cell. -/
abbrev Own : Type := Bool × Fin 8 × Fin 3
abbrev CI : Type := Option Own

/-- The semaphores the kernel scopes: departures and arrivals. -/
def osem : Own → SemLoc sig
  | (false, p, s) => .dma (sendS p s)
  | (true, p, s) => .dma (recvS p s)
/-- All semaphores of the protocol. -/
def csem : CI → SemLoc sig
  | none => .reg barS
  | some o => osem o

abbrev kcell (ck : Dev nD × CI) : GSem nD τ sig := ((ck.1 : Thread nD τ), csem ck.2)
abbrev barCell (c : Dev nD) : GSem nD τ sig := ((c : Thread nD τ), .reg barS)
theorem bar_kcell (c : Dev nD) : barCell c = kcell (c, none) := rfl
abbrev sendCell (c : Dev nD) (p : Fin 8) (s : Fin 3) : GSem nD τ sig := ((c : Thread nD τ), .dma (sendS p s))
abbrev recvCell (c : Dev nD) (p : Fin 8) (s : Fin 3) : GSem nD τ sig := ((c : Thread nD τ), .dma (recvS p s))
theorem send_kcell (c : Dev nD) (p : Fin 8) (s : Fin 3) : sendCell c p s = kcell (c, some (false, p, s)) := rfl
theorem recv_kcell (c : Dev nD) (p : Fin 8) (s : Fin 3) : recvCell c p s = kcell (c, some (true, p, s)) := rfl

/-- Which of the protocol's cells a semaphore is, if any. -/
def decode : SemLoc sig → Option CI
  | .reg _ => some none
  | .dma q => if 2 ≤ q.val then
      some (some (decide (26 ≤ q.val), ⟨(q.val - 2) % 24 / 3, by omega⟩, ⟨(q.val - 2) % 3, by omega⟩)) else none

theorem decode_csem : ∀ i : CI, decode (csem i) = some i := by decide +kernel

theorem csem_injective : Function.Injective csem := fun i j h => by
  have := congrArg decode h; rw [decode_csem, decode_csem] at this; exact Option.some.inj this

theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

/-- The credit of one slab's transfer. -/
def N : ℕ := (rSlab 0 0).view.dmaCredit
theorem N_pos : 0 < N := View.dmaCredit_pos _ (by decide)
theorem credit_r (p : Fin 8) (s : Fin 3) : (rSlab p s).view.dmaCredit = N := rfl
theorem credit_a (p : Fin 8) : (aSlab p).view.dmaCredit = N := rfl

/-! ## The values -/

/-- Device `c`'s staged copy of its part of `x`. -/
def xstg (c : Dev nD) : (cc0_stg0_0 : Ref sig .tc).ty.Contents (Elt F) :=
  (win0_0.blk (0 : Fin 1)).view.read (Elt F) (m ((c : Thread nD τ).loc main_arg0))

/-- The block of `x` that device `c` adds to row block `p` at pass `k`. -/
def xblk (c : Dev nD) (p : Fin 8) (k : Fin 4) : Vec F S1x256x512 .bf16 :=
  xM.view.readAt (Elt F) (xRect (offOf c p k) (offOf_inb c p k)).toLoadRect (xstg m c)

/-- The partial sum of row block `p` that device `c` holds after pass `k`. -/
def acc (p : Fin 8) : ℕ → Dev nD → FVec F S256x512 .bf16
  | 0, c => asMat (xblk m c p 0)
  | k + 1, c => addf (acc p k (src c p)) (asMat (xblk m c p (Fin.ofNat 4 (k + 1))))

/-! ## The slabs -/

/-- Device `c`'s slab `p` of partial sums, whatever it holds; -/
def aAny (c : Dev nD) (p : Fin 8) : sProp 𝕄 :=
  iprop(∃ f, (aSlab p).view.loc (c : Thread nD τ) ↦[(aSlab p).view.set]{fullShare} f)
/-- device `c`'s slab `(p, s)` of the receive buffer, whatever it holds; -/
def rAny (c : Dev nD) (p : Fin 8) (s : Fin 3) : sProp 𝕄 :=
  iprop(∃ f, (rSlab p s).view.loc (c : Thread nD τ) ↦[(rSlab p s).view.set]{fullShare} f)
/-- that slab holding the partial sum its neighbour had after pass `s`. -/
def rHas (c : Dev nD) (p : Fin 8) (s : Fin 3) : sProp 𝕄 :=
  owns (c : Thread nD τ) (rSlab p s) fullShare (acc m p s.val (src c p))

/-- What the two neighbours' raises of device `c`'s barrier cell hand over: the slabs that `c` fills, on the neighbour that
    receives them from `c` — `true` the next device, `false` the one before. -/
def barPay (c : Dev nD) (d : Bool) : sProp 𝕄 :=
  bigSep (Finset.univ.filter fun p => fwd p = d) fun p => bigSep Finset.univ fun s => rAny (tgt c p) p s

omit [FloatOps F] in
instance aAny_storable (c : Dev nD) (p) : BI.Storable (upEmb : UEmb _ 𝕄) (aAny (F := F) c p) := by unfold aAny; infer_instance
omit [FloatOps F] in
instance rAny_storable (c : Dev nD) (p s) : BI.Storable (upEmb : UEmb _ 𝕄) (rAny (F := F) c p s) := by unfold rAny; infer_instance
instance rHas_storable (c : Dev nD) (p s) : BI.Storable (upEmb : UEmb _ 𝕄) (rHas m c p s) := by unfold rHas; infer_instance
omit [FloatOps F] in
instance barPay_storable (c : Dev nD) (d) : BI.Storable (upEmb : UEmb _ 𝕄) (barPay (F := F) c d) := by unfold barPay; infer_instance

/-! ## The schedule -/

def dutiesOf : Option CI → Finset Bool
  | some none => Finset.univ
  | some (some _) => {false}
  | none => ∅
def amountOf : Option CI → ℕ
  | some none => 1
  | _ => N
def payloadOf (c : Dev nD) (d : Bool) : Option CI → sProp 𝕄
  | some none => barPay c d
  | some (some (false, p, s)) => aAny c p
  | some (some (true, p, s)) => rHas m c p s
  | none => iprop(emp)

def ringRd : Rounds.Schedule (GSem nD τ sig) Bool 𝕄 where
  duties g r := if r = 0 ∧ g.1.2 = .tc then dutiesOf (decode g.2) else ∅
  unitless _ := False
  amount g _ _ := amountOf (decode g.2)
  payload g _ d := payloadOf m g.1.1 d (decode g.2)
  amount_pos g _ _ _ := by
    show 0 < amountOf (decode g.2)
    unfold amountOf; split
    · exact Nat.one_pos
    · exact N_pos

instance ringRd_payload_storable (g : GSem nD τ sig) (r : ℕ) (d : Bool) :
    BI.Storable (upEmb : UEmb _ 𝕄) ((ringRd (F := F) m).payload g r d) := by
  show BI.Storable upEmb (payloadOf m g.1.1 d (decode g.2))
  unfold payloadOf; split <;> infer_instance

section Sched
variable (c : Dev nD)

theorem duties_cell (i : CI) : (ringRd (F := F) m).duties (kcell (c, i)) 0 = dutiesOf (some i) := by
  show (if (0 : ℕ) = 0 ∧ (c.tc : Thread nD τ).2 = .tc then dutiesOf (decode (csem i)) else ∅) = _
  rw [if_pos ⟨rfl, rfl⟩, decode_csem]
theorem duties_later (g : GSem nD τ sig) : ∀ r, 0 + 1 ≤ r → (ringRd (F := F) m).duties g r = ∅ :=
  fun r hr => if_neg fun h => by omega
theorem amount_cell (i : CI) (d : Bool) : (ringRd (F := F) m).amount (kcell (c, i)) 0 d = amountOf (some i) := by
  show amountOf (decode (csem i)) = _; rw [decode_csem]
theorem payload_cell (i : CI) (d : Bool) : (ringRd (F := F) m).payload (kcell (c, i)) 0 d = payloadOf m c d (some i) := by
  show payloadOf m c d (decode (csem i)) = _; rw [decode_csem]

theorem duties_bar : (ringRd (F := F) m).duties (barCell c) 0 = Finset.univ := duties_cell m c none
theorem payload_bar (d) : (ringRd (F := F) m).payload (barCell c) 0 d = barPay c d := payload_cell m c none d
theorem duties_send (p s) : (ringRd (F := F) m).duties (sendCell c p s) 0 = {false} := duties_cell m c (some (false, p, s))
theorem duties_recv (p s) : (ringRd (F := F) m).duties (recvCell c p s) 0 = {false} := duties_cell m c (some (true, p, s))
theorem amount_send (p s d) : (ringRd (F := F) m).amount (sendCell c p s) 0 d = N := amount_cell m c (some (false, p, s)) d
theorem amount_recv (p s d) : (ringRd (F := F) m).amount (recvCell c p s) 0 d = N := amount_cell m c (some (true, p, s)) d
theorem payload_send (p s d) : (ringRd (F := F) m).payload (sendCell c p s) 0 d = aAny c p := payload_cell m c (some (false, p, s)) d
theorem payload_recv (p s d) : (ringRd (F := F) m).payload (recvCell c p s) 0 d = rHas m c p s := payload_cell m c (some (true, p, s)) d

theorem expect_bar : (ringRd (F := F) m).expect (barCell c) 0 = 2 := by
  unfold Schedule.expect Schedule.amountOf
  rw [bar_kcell, duties_cell, Finset.sum_congr rfl fun d _ => amount_cell m c none d]
  rfl
theorem expect_own (o : Own) : (ringRd (F := F) m).expect (kcell (c, some o)) 0 = N := by
  unfold Schedule.expect Schedule.amountOf
  rw [duties_cell, Finset.sum_congr rfl fun d _ => amount_cell m c (some o) d]
  exact Finset.sum_singleton _ _

theorem rest_bar : bigSep ((ringRd (F := F) m).duties (barCell c) 0 \ ∅) (fun d => (ringRd (F := F) m).payload (barCell c) 0 d)
    = iprop(barPay c true ∗ barPay c false) := by
  rw [bar_kcell, Finset.sdiff_empty, duties_cell, bigSep_congr fun d _ => payload_cell m c none d]
  exact bigSep_univ_eq_bigSepL [true, false] (by decide) (by decide) _
theorem rest_own (o : Own) : bigSep ((ringRd (F := F) m).duties (kcell (c, some o)) 0 \ ∅) (fun d => (ringRd (F := F) m).payload (kcell (c, some o)) 0 d)
    = payloadOf m c false (some (some o)) := by
  rw [Finset.sdiff_empty, duties_cell, bigSep_congr fun d _ => payload_cell m c (some o) d]
  exact bigSep_singleton

end Sched

/-! ## What each device owes at launch, and the levels of its waits -/

/-- The transfers in program order. -/
def sends : List (Fin 8 × Fin 3) := order.map (·, 0) ++ (order.map (·, 1) ++ order.map (·, 2))

/-- The arrivals that device `c` still owes its neighbours. -/
def owedL (c : Dev nD) : List (Fin 8 × Fin 3) → CellTallies nD τ sig Unit
  | [] => 0
  | a :: l => owedL c l + tallyAt (recvCell (tgt c a.1) a.1 a.2) () N

def O₁ (c : Dev nD) : CellTallies nD τ sig Unit := owedL c sends + tallyAt (barCell (nxt c)) () 1
def O₀ (c : Dev nD) : CellTallies nD τ sig Unit := O₁ c + tallyAt (barCell (prv c)) () 1

def L (g : GSem nD τ sig) : Finset Unit := if g.1.2 = .tc then {()} else ∅
/-- Barrier cells at 1, the arrival cells of pass `s` at `2 + s`, every other cell at 0. -/
def lvOf : Option CI → ℕ
  | some none => 1
  | some (some (true, _, s)) => 2 + s.val
  | _ => 0
def lv (g : GSem nD τ sig) (_ : Unit) : ℕ := lvOf (decode g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : CI) (u : Unit) : lv (kcell (c, i)) u = lvOf (some i) := by
  show lvOf (decode (csem i)) = _; rw [decode_csem]

theorem tally_pos {g' g : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

theorem add_pos_or {A B : CellTallies nD τ sig Unit} {g : GSem nD τ sig} {u : Unit} (h : 0 < (A + B) g u) : 0 < A g u ∨ 0 < B g u := by
  rw [Pi.add_apply, Finsupp.add_apply] at h; omega

theorem owedL_pos {c : Dev nD} {l : List (Fin 8 × Fin 3)} {g : GSem nD τ sig} {u : Unit} (h : 0 < owedL c l g u) :
    ∃ a ∈ l, g = kcell (tgt c a.1, some (true, a.1, a.2)) := by
  induction l with
  | nil => exact absurd h (Nat.lt_irrefl 0)
  | cons a l ih =>
    rcases add_pos_or h with h | h
    · obtain ⟨b, hb, e⟩ := ih h; exact ⟨b, List.mem_cons_of_mem _ hb, e⟩
    · exact ⟨a, List.mem_cons_self, (tally_pos h).trans (recv_kcell _ _ _)⟩

/-- A device may wait at a cell of level `b` at most when everything it owes is owed to cells of greater level. -/
theorem mayWait_of (c : Dev nD) (sm : SemLoc sig) (b : ℕ) (O : CellTallies nD τ sig Unit) (hb : lv ((c : Thread nD τ), sm) () ≤ b)
    (hO : ∀ g u, 0 < O g u → ∃ c' i, g = kcell (c', i) ∧ b < lvOf (some i)) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by obtain ⟨c', i, rfl, -⟩ := hO g u hg; exact Finset.mem_singleton_self _)
    (fun p hp => by rw [Finset.mem_singleton.mp hp]; exact hb)
    (fun g u hg => by obtain ⟨c', i, rfl, h⟩ := hO g u hg; rw [lv_cell]; exact h)

/-- With arrivals of the passes from `s` on owed, a device may wait at a cell of its own below level `2 + s`. -/
theorem mayWait_owedL (c : Dev nD) (i : CI) (l : List (Fin 8 × Fin 3)) (h : ∀ a ∈ l, lvOf (some i) < 2 + a.2.val) :
    (levAts L lv : sProp 𝕄) ⊢ MayWait (c : Thread nD τ) (csem i) () (owedL c l) :=
  mayWait_of c (csem i) (lvOf (some i)) _ (le_of_eq (lv_cell c i ())) fun g u hg => by
    obtain ⟨a, ha, e⟩ := owedL_pos hg
    exact ⟨_, _, e, h a ha⟩

/-- A staging semaphore is below everything a device ever owes. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine mayWait_of c _ 0 _ ?_ fun g u hg => ?_
    · show lvOf (if 2 ≤ q.val then _ else none) ≤ 0
      rw [if_neg (by omega)]; exact le_rfl
    · rcases add_pos_or hg with h | h
      · rcases add_pos_or h with h | h
        · obtain ⟨a, -, e⟩ := owedL_pos h
          exact ⟨_, _, e, Nat.lt_of_lt_of_le Nat.two_pos (Nat.le_add_right _ _)⟩
        · exact ⟨_, none, tally_pos h, Nat.one_pos⟩
      · exact ⟨_, none, tally_pos h, Nat.one_pos⟩
  · rw [MayWait_zero]; iintro -; iempintro

end Cert.ReduceScatter

end
-- ==== Proof.Slabs.lean ====
/-
# The buffers slab by slab

The buffer of partial sums is its eight slabs, the receive buffer its twenty-four, the result buffer its eight row blocks.
-/
module

public import proofs.«01_k».proof.Proof.Proto
public import Idealize.ShloMosaic.Lib.Ring

@[expose] public section

noncomputable section

namespace Cert.ReduceScatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Which elements a slab has -/

theorem set_of_whole (b : Ref sig .tc) (r : Rect b.ty.shape) : ((View.whole b).slice r).set = r.set := by
  ext i; rw [View.set_slice, Finset.mem_map]
  exact ⟨fun ⟨x, hx, e⟩ => e ▸ hx, fun h => ⟨i, h, rfl⟩⟩

theorem aSlab_set (p : Fin 8) : (aSlab p).view.set = (aRect p).set :=
  (View.set_reshape _ _).trans (set_of_whole cc0_scratch0 _)
theorem rSlab_set (p : Fin 8) (s : Fin 3) : (rSlab p s).view.set = (rRect p s).set :=
  (View.set_reshape _ _).trans (set_of_whole cc0_scratch1 _)

theorem mem_aRect (p : Fin 8) (i : S8x256x512.Idx) : i ∈ (aRect p).set ↔ i 0 = p := by
  rw [Rect.mem_set_unit, Fin.forall_fin_succ, Fin.forall_fin_succ, Fin.forall_fin_succ]
  have h1 := (i 1).isLt; have h2 := (i 2).isLt
  constructor
  · rintro ⟨h, -⟩
    exact Fin.ext (by have := h.1; have := h.2; simp [S1x256x512, S8x256x512] at *; omega)
  · rintro rfl
    simp [S1x256x512, S8x256x512] at *
    omega

theorem mem_rRect (p : Fin 8) (s : Fin 3) (i : S8x3x256x512.Idx) : i ∈ (rRect p s).set ↔ (i 0 = p ∧ i 1 = s) := by
  rw [Rect.mem_set_unit, Fin.forall_fin_succ, Fin.forall_fin_succ, Fin.forall_fin_succ, Fin.forall_fin_succ]
  have h1 := (i 2).isLt; have h2 := (i 3).isLt
  constructor
  · rintro ⟨h, h', -⟩
    exact ⟨Fin.ext (by have := h.1; have := h.2; simp [S1x1x256x512, S8x3x256x512] at *; omega),
      Fin.ext (by have := h'.1; have := h'.2; simp [S1x1x256x512, S8x3x256x512] at *; omega)⟩
  · rintro ⟨rfl, rfl⟩
    simp [S1x1x256x512, S8x3x256x512] at *
    omega

theorem mem_oRect (p : Fin 8) (i : S2048x512.Idx) : i ∈ (oRect p).set ↔ (i 0).val / 256 = p.val := by
  rw [Rect.mem_set_unit, Fin.forall_fin_succ, Fin.forall_fin_succ]
  have h1 := (i 1).isLt
  constructor
  · rintro ⟨h, -⟩
    have := h.1; have := h.2; simp [S256x512, S2048x512] at *; omega
  · intro h
    simp [S256x512, S2048x512] at *
    omega

/-! ## Splitting and joining -/

theorem aSlab_disjoint (p p' : Fin 8) (h : p ≠ p') : Disjoint (aSlab p).view.set (aSlab p').view.set := by
  rw [aSlab_set, aSlab_set, Finset.disjoint_left]
  intro i hi hi'
  exact h (((mem_aRect p i).mp hi).symm.trans ((mem_aRect p' i).mp hi'))
theorem aSlab_cover : (Finset.univ : Finset (Fin 8)).biUnion (β := S8x256x512.Idx) (fun p => (aSlab p).view.set) = Finset.univ := by
  ext i; rw [Finset.mem_biUnion]
  exact ⟨fun _ => Finset.mem_univ _, fun _ => ⟨i 0, Finset.mem_univ _, (aSlab_set (i 0)).symm ▸ (mem_aRect (i 0) i).mpr rfl⟩⟩

theorem rSlab_disjoint (a b : Fin 8 × Fin 3) (h : a ≠ b) : Disjoint (rSlab a.1 a.2).view.set (rSlab b.1 b.2).view.set := by
  rw [rSlab_set, rSlab_set, Finset.disjoint_left]
  intro i hi hi'
  have h1 := (mem_rRect a.1 a.2 i).mp hi
  have h2 := (mem_rRect b.1 b.2 i).mp hi'
  exact h (Prod.ext (h1.1.symm.trans h2.1) (h1.2.symm.trans h2.2))
theorem rSlab_cover : (Finset.univ : Finset (Fin 8 × Fin 3)).biUnion (β := S8x3x256x512.Idx) (fun a => (rSlab a.1 a.2).view.set) = Finset.univ := by
  ext i; rw [Finset.mem_biUnion]
  exact ⟨fun _ => Finset.mem_univ _, fun _ => ⟨(i 0, i 1), Finset.mem_univ _,
    (rSlab_set (i 0) (i 1)).symm ▸ (mem_rRect (i 0) (i 1) i).mpr ⟨rfl, rfl⟩⟩⟩

theorem oRect_disjoint (p p' : Fin 8) (h : p ≠ p') : Disjoint (oM.access (oRect p)).set (oM.access (oRect p')).set := by
  show Disjoint ((View.whole cc0_stg1_0).slice (oRect p)).set ((View.whole cc0_stg1_0).slice (oRect p')).set
  rw [set_of_whole cc0_stg1_0 (oRect p), set_of_whole cc0_stg1_0 (oRect p'), Finset.disjoint_left]
  intro i hi hi'
  exact h (Fin.ext (((mem_oRect p i).mp hi).symm.trans ((mem_oRect p' i).mp hi')))

/-- The buffer of partial sums is its slabs; -/
theorem aBuf_split (c : Dev nD) : (iprop(∃ f, ((c : Thread nD τ).loc cc0_scratch0) ↦{fullShare} f) : sProp 𝕄)
    ⊢ bigSep Finset.univ fun p => aAny c p := by
  iintro ⟨%f, H⟩
  iapply ((Entails.of_eq (Ring.pointsTo_blocks (ℓ := (c : Thread nD τ).loc cc0_scratch0) (fun p => (aSlab p).view.set) aSlab_disjoint aSlab_cover f)).trans
    (bigSep_mono fun p _ => show _ ⊢ aAny c p by unfold aAny; iintro H; iexists f; iexact H))
  iexact H
theorem aBuf_join (c : Dev nD) : (bigSep Finset.univ fun p => aAny c p : sProp 𝕄)
    ⊢ iprop(∃ f, ((c : Thread nD τ).loc cc0_scratch0) ↦{fullShare} f) :=
  Ring.pointsTo_blocks_join_exists (ℓ := (c : Thread nD τ).loc cc0_scratch0) (fun p => (aSlab p).view.set) aSlab_disjoint aSlab_cover
    (fun _ => Classical.arbitrary _)
/-- so is the receive buffer. -/
theorem rBuf_split (c : Dev nD) : (iprop(∃ f, ((c : Thread nD τ).loc cc0_scratch1) ↦{fullShare} f) : sProp 𝕄)
    ⊢ bigSep Finset.univ fun p => bigSep Finset.univ fun s => rAny c p s := by
  rw [← bigSep_univ_prod (fun a : Fin 8 × Fin 3 => rAny c a.1 a.2)]
  iintro ⟨%f, H⟩
  iapply ((Entails.of_eq (Ring.pointsTo_blocks (ℓ := (c : Thread nD τ).loc cc0_scratch1) (fun a : Fin 8 × Fin 3 => (rSlab a.1 a.2).view.set)
    rSlab_disjoint rSlab_cover f)).trans (bigSep_mono fun a _ => show _ ⊢ rAny c a.1 a.2 by unfold rAny; iintro H; iexists f; iexact H))
  iexact H
theorem rBuf_join (c : Dev nD) : (bigSep Finset.univ fun p => bigSep Finset.univ fun s => rAny c p s : sProp 𝕄)
    ⊢ iprop(∃ f, ((c : Thread nD τ).loc cc0_scratch1) ↦{fullShare} f) := by
  rw [← bigSep_univ_prod (fun a : Fin 8 × Fin 3 => rAny c a.1 a.2)]
  exact Ring.pointsTo_blocks_join_exists (ℓ := (c : Thread nD τ).loc cc0_scratch1) (fun a : Fin 8 × Fin 3 => (rSlab a.1 a.2).view.set)
    rSlab_disjoint rSlab_cover (fun _ => Classical.arbitrary _)

/-! ## What reads and writes of a slab say -/

/-- After a store of `asSlab v` at slab `p`, the slab reads `v`. -/
theorem read_put (p : Fin 8) (f : (cc0_scratch0 : Ref sig .tc).ty.Contents (Elt F)) (v : FVec F S256x512 .bf16) :
    (aSlab p).view.read (Elt F) ((aM.access (aRect p)).write (Elt F) f (asSlab v) Finset.univ) = v := by
  refine (?_ : _ = shapeCast S256x512 ((aM.access (aRect p)).read (Elt F) ((aM.access (aRect p)).write (Elt F) f (asSlab v) Finset.univ))
    shapeCasts_S1x256x512_S256x512).trans ?_
  · rfl
  · rw [View.read_write_univ]; exact funext fun i => congrArg v ((Shape.reshapeEquiv_reshapeEquiv _ _ i).trans (Shape.reshapeEquiv_self _ i))

/-- A load of slab `(p, s)` of the receive buffer, as a matrix, is what the slab reads. -/
theorem read_recv (p : Fin 8) (s : Fin 3) (f : (cc0_scratch1 : Ref sig .tc).ty.Contents (Elt F)) :
    recvMat (rM.view.readAt (Elt F) (rRect p s).toLoadRect f) = (rSlab p s).view.read (Elt F) f := rfl

theorem oRow_write (p : Fin 8) (f : (cc0_stg1_0 : Ref sig .tc).ty.Contents (Elt F)) (v : FVec F S256x512 .bf16) :
    (oM.access (oRect p)).read (Elt F) ((oM.access (oRect p)).write (Elt F) f v Finset.univ) = v := View.read_write_univ _ _
/-- A store of row block `p` of the result leaves the other row blocks. -/
theorem oRow_write_ne (p p' : Fin 8) (h : p' ≠ p) (f : (cc0_stg1_0 : Ref sig .tc).ty.Contents (Elt F)) (v : FVec F S256x512 .bf16) :
    (oM.access (oRect p')).read (Elt F) ((oM.access (oRect p)).write (Elt F) f v Finset.univ) = (oM.access (oRect p')).read (Elt F) f :=
  View.read_slice_write_slice_of_disjoint _ _ _ _ _ (oRect_disjoint p' p h)

end Cert.ReduceScatter

end
-- ==== Proof.Moves.lean ====
/-
# One rule per move of the body

The loads, the store of a partial sum, the transfer and the two waits that a step is made of, each with what it needs and
what it leaves.
-/
module

public import proofs.«01_k».proof.Proof.Slabs

@[expose] public section

noncomputable section

namespace Cert.ReduceScatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c`'s TensorCore runs `k` and ends with `Q`. -/
abbrev runs (c : Dev nD) (k : TcProg F) (Q : PUnit → sProp 𝕄) : sProp 𝕄 :=
  wp frame (wpE (defs₀ (F := F)) 𝒱₀ (c : Thread nD τ) none) Set.univ k Q

/-- Every cell's invariant, under the names `K`, and that every cell has reached its round. -/
def records (K : Dev nD × CI → ℕ) : sProp 𝕄 :=
  iprop((bigSep Finset.univ fun ck : Dev nD × CI => cellInv ER (ringRd m) (K ck) (kcell ck))
    ∗ bigSep Finset.univ fun ck : Dev nD × CI => reached ER (kcell ck) 0)

instance records_persistent (K : Dev nD × CI → ℕ) : BI.Persistent (records m K) := by unfold records; infer_instance

variable (K : Dev nD × CI → ℕ)

theorem inv_at (ck : Dev nD × CI) : records m K ⊢ cellInv ER (ringRd m) (K ck) (kcell ck) := by
  unfold records; exact (sep_elim_left).trans (bigSep_elim (Finset.mem_univ ck))
theorem reached_at (ck : Dev nD × CI) : records m K ⊢ reached ER (kcell ck) 0 := by
  unfold records; exact (sep_elim_right).trans (bigSep_elim (Finset.mem_univ ck))

/-- What device `c` sends row block `p` at pass `s` with: the two duties it pays, and the slab it fills. -/
def canSend (c : Dev nD) (p : Fin 8) (s : Fin 3) : sProp 𝕄 :=
  iprop(dutyTok ER (sendCell c p s) 0 false ∗ dutyTok ER (recvCell (tgt c p) p s) 0 false ∗ rAny (tgt c p) p s)
/-- What it waits for row block `p` at pass `s` with, but for the departure's credit. -/
def canWait (c : Dev nD) (p : Fin 8) (s : Fin 3) : sProp 𝕄 :=
  iprop(cred (tallyAt (recvCell c p s) () N) ∗ atPos ER (sendCell c p s) 0 ∅ 0 ∗ atPos ER (recvCell c p s) 0 ∅ 0)
/-- The departure's credit. -/
def left (c : Dev nD) (p : Fin 8) (s : Fin 3) : sProp 𝕄 := cred (tallyAt (sendCell c p s) () N)
/-- What is left of row block `p`'s pass `s` once it is over: the two cells at zero and the slab. -/
def over (c : Dev nD) (p : Fin 8) (s : Fin 3) : sProp 𝕄 :=
  iprop(semVal (sendCell c p s) 0 ∗ semVal (recvCell c p s) 0 ∗ rAny c p s)
/-- What device `c` owes while the arrivals `l` are outstanding. -/
def owing (c : Dev nD) (l : List (Fin 8 × Fin 3)) : sProp 𝕄 := iprop(∃ W, owes (c : Thread nD τ) (owedL c l) W)
/-- Device `c`'s staged part of `x`. -/
def xPts (c : Dev nD) : sProp 𝕄 := ((c : Thread nD τ).loc cc0_stg0_0) ↦{fullShare} xstg m c
/-- Device `c`'s slab `p` of partial sums, holding `v`. -/
def aHas (c : Dev nD) (p : Fin 8) (v : FVec F S256x512 .bf16) : sProp 𝕄 := owns (c : Thread nD τ) (aSlab p) fullShare v

variable {m K}
variable {c : Dev nD} {p : Fin 8} {Q : PUnit.{1} → sProp (MT nD τ sig Unit (Elt F) ℕ UU ℕ)}

theorem wp_getX (i : Fin 4) (k : Vec F S1x256x512 .bf16 → TcProg F) :
    xPts m c ⊢ iprop((xPts m c -∗ runs c (k (xblk m c p i)) Q) -∗ runs c (getX c p i k) Q) := by
  unfold xPts getX
  exact wp_load 𝒱₀ (c : Thread nD τ) none Set.univ (m := xM) (Finset.subset_univ _)

theorem wp_put (v : FVec F S256x512 .bf16) (k : TcProg F) :
    aAny c p ⊢ iprop((aHas c p v -∗ runs c k Q) -∗ runs c (put p v k) Q) := by
  unfold aAny put aHas
  iintro ⟨%f, H⟩ Hk
  iapply (wp_load_rect 𝒱₀ (c : Thread nD τ) none Set.univ (m := aM) (r := aRect p) (le_of_eq (View.set_reshape _ _).symm)) $$ H
  iintro H
  iapply (wp_store 𝒱₀ (c : Thread nD τ) none Set.univ (m := aM) (r := aRect p) (Mk := Finset.univ) (le_of_eq (View.set_reshape _ _).symm)) $$ H
  iintro H
  iapply Hk
  unfold owns
  iexists _
  isplitr; · ipureintro; exact read_put p f v
  iexact H

theorem wp_take (s : Fin 3) (k : Vec F S1x1x256x512 .bf16 → TcProg F) :
    iprop(rHas m c p s ∗ (∀ r, ⌜recvMat r = acc m p s.val (src c p)⌝ -∗ rAny c p s -∗ runs c (k r) Q))
      ⊢ runs c (.op (.load rM (rRect p s).toLoadRect (View.loadsAt_vmem h_S1x1x256x512)) k) Q := by
  unfold rHas owns rAny
  iintro ⟨⟨%f, %hf, H⟩, Hk⟩
  iapply (wp_load_rect 𝒱₀ (c : Thread nD τ) none Set.univ (m := rM) (r := rRect p s) (le_of_eq (View.set_reshape _ _).symm)) $$ H
  iintro H
  iapply Hk
  · ipureintro; exact hf
  · iexists f; iexact H

theorem arrives (s : Fin 3) (fs : Buf (Elt F) ((aSlab p).view.loc (c : Thread nD τ))) (fd : Buf (Elt F) ((rSlab p s).view.loc (tgt c p : Thread nD τ)))
    (h : (aSlab p).view.read (Elt F) fs = acc m p s.val c) :
    ((rSlab p s).view.loc (tgt c p : Thread nD τ) ↦[(rSlab p s).view.set]{fullShare}
        ((rSlab p s).view.write (Elt F) fd ((aSlab p).view.read (Elt F) fs) Finset.univ) : sProp 𝕄)
      ⊢ rHas m (tgt c p) p s := by
  unfold rHas owns
  rw [src_tgt, ← h]
  iintro H
  iexists ((rSlab p s).view.write (Elt F) fd ((aSlab p).view.read (Elt F) fs) Finset.univ)
  isplitr
  · ipureintro; exact View.read_write_univ _ _
  · iexact H

/-- The transfer of slab `p` at pass `s`, its two duties paid. -/
theorem wp_transfer (s : Fin 3) (fs : Buf (Elt F) ((aSlab p).view.loc (c : Thread nD τ))) (fd : Buf (Elt F) ((rSlab p s).view.loc (tgt c p : Thread nD τ)))
    (h : (aSlab p).view.read (Elt F) fs = acc m p s.val c) (l : List (Fin 8 × Fin 3)) (W : Waits sig Unit) (k : TcProg F) :
    iprop(cellInv ER (ringRd m) (K (c, some (false, p, s))) (sendCell c p s)
        ∗ cellInv ER (ringRd m) (K (tgt c p, some (true, p, s))) (recvCell (tgt c p) p s)
        ∗ ((aSlab p).view.loc (c : Thread nD τ) ↦[(aSlab p).view.set]{fullShare} fs)
        ∗ ((rSlab p s).view.loc (tgt c p : Thread nD τ) ↦[(rSlab p s).view.set]{fullShare} fd)
        ∗ owes (c : Thread nD τ) (owedL c ((p, s) :: l)) W
        ∗ dutyTok ER (sendCell c p s) 0 false ∗ reached ER (sendCell c p s) 0
        ∗ dutyTok ER (recvCell (tgt c p) p s) 0 false ∗ reached ER (recvCell (tgt c p) p s) 0)
      ⊢ iprop((cred (tallyAt (sendCell c p s) () N) ∗ owes (c : Thread nD τ) (owedL c l) W -∗ runs c k Q) -∗ runs c (send p s (tgt c p) k) Q) := by
  unfold send
  exact Rounds.wp_send_pointsTo 𝒱₀ ER (ringRd m) (c : Thread nD τ) none (c' := (tgt c p : Thread nD τ))
    (κ₁ := K (c, some (false, p, s))) (κ₂ := K (tgt c p, some (true, p, s))) (src := aSlab p) (dst := rSlab p s) (fs := fs) (fd := fd) (q := fullShare)
    (sS := .dma (sendS p s)) (sem := .dma (recvS p s)) (r₁ := 0) (r₂ := 0) (d₁ := false) (d₂ := false) (k := fun _ => k) (Es := Set.univ) (defs := defs₀ (F := F)) (Q := Q)
    (by rw [duties_send]; exact Finset.mem_singleton_self _) (by rw [duties_recv]; exact Finset.mem_singleton_self _)
    () () N (credit_r p s) (amount_send m c p s false) (amount_recv m (tgt c p) p s false) (owedL c l) rfl (W := W)
    (by rw [payload_send]; unfold aAny; iintro H; iexists fs; iexact H)
    (by rw [payload_recv]; exact arrives s fs fd h)

theorem wp_send (s : Fin 3) (l : List (Fin 8 × Fin 3)) (k : TcProg F) (n : Dev nD) (hn : n = tgt c p) :
    iprop(records m K ∗ aHas c p (acc m p s.val c) ∗ canSend c p s ∗ owing c ((p, s) :: l))
      ⊢ iprop((left c p s ∗ owing c l -∗ runs c k Q) -∗ runs c (send p s n k) Q) := by
  subst hn
  unfold aHas owns canSend owing rAny left
  iintro ⟨#HK, ⟨%fs, %hfs, Ha⟩, ⟨Ht1, Ht2, %fd, Hr⟩, %W, HO⟩ Hk
  iapply (wp_transfer (m := m) (K := K) s fs fd hfs l W k) $$ [Ha Hr HO Ht1 Ht2]
  · isplitr; · iapply (inv_at m K (c, some (false, p, s))); iexact HK
    isplitr; · iapply (inv_at m K (tgt c p, some (true, p, s))); iexact HK
    isplitl [Ha]; · iexact Ha
    isplitl [Hr]; · iexact Hr
    isplitl [HO]; · iexact HO
    isplitl [Ht1]; · iexact Ht1
    isplitr; · iapply (reached_at m K (c, some (false, p, s))); iexact HK
    isplitl [Ht2]; · iexact Ht2
    iapply (reached_at m K (tgt c p, some (true, p, s))); iexact HK
  iintro ⟨Hc, HO⟩
  iapply Hk
  isplitl [Hc]; · iexact Hc
  iexists W; iexact HO

/-- A wait for the whole round of one of `c`'s own cells; the cell closes, so its counter at zero is the device's again. -/
theorem wp_round (i : CI) (sm : SemLoc sig) (hsm : sm = csem i) {w : TpuEff nD τ sig (Elt F) Λ₀ .tc PUnit} {n : ℕ}
    (hw : ∀ G : PUnit → sProp (MT nD τ sig Unit (Elt F) ℕ UU ℕ), wpE (defs₀ (F := F)) 𝒱₀ (c : Thread nD τ) none Set.univ w G = waitSpec (c : Thread nD τ) Set.univ sm n G)
    (hn : n = (ringRd (F := F) m).expect (kcell (c, i)) 0) (l : List (Fin 8 × Fin 3)) (hl : ∀ a ∈ l, lvOf (some i) < 2 + a.2.val)
    (R : sProp (MT nD τ sig Unit (Elt F) ℕ UU ℕ))
    (hR : bigSep ((ringRd (F := F) m).duties (kcell (c, i)) 0 \ ∅) (fun d => (ringRd (F := F) m).payload (kcell (c, i)) 0 d) = R) (k : PUnit.{1} → TcProg F) :
    iprop(records m K ∗ levAts L lv ∗ cred (tallyAt ((c : Thread nD τ), sm) () n) ∗ atPos ER ((c : Thread nD τ), sm) 0 ∅ 0 ∗ owing c l)
      ⊢ iprop((semVal ((c : Thread nD τ), sm) 0 ∗ owing c l ∗ R -∗ runs c (k ⟨⟩) Q) -∗ runs c (.op w k) Q) := by
  subst hsm; subst hR
  unfold owing
  iintro ⟨#HK, #Hlev, Hc, Hat, %W, HO⟩ Hk
  ihave #HI := (inv_at m K (c, i)) $$ HK
  iapply (Rounds.wp_wait_rest_token 𝒱₀ ER (ringRd m) (c : Thread nD τ) none (κ := K (c, i)) hw (Set.mem_univ _) () (O := owedL c l) (W := W)
    (R := 0) (m := 0) (T := ∅) (by rw [Nat.zero_add]; exact hn)) $$ [Hc HO Hat]
  · isplitr; · iexact HI
    isplitl [Hc]; · iexact Hc
    isplitl [HO]; · iexact HO
    isplitr; · iapply (mayWait_owedL c i l hl); iexact Hlev
    iexact Hat
  iintro ⟨HO, Hat, -, Hpay⟩
  imod (Rounds.cell_close ER (ringRd m) (Set.mem_univ (K (c, i))) (fun h => h) (R := 0 + 1) (duties_later m (kcell (c, i)))) $$ [Hat] with Hz
  · isplitr; · iexact HI
    iexact Hat
  iapply Hk
  isplitl [Hz]; · iexact Hz
  isplitl [HO]; · iexists _; iexact HO
  iexact Hpay

/-- The first wait of a pass: row block `p`'s transfer has left, so slab `p` of the partial sums is the device's again. -/
theorem wp_departed (s : Fin 3) (l : List (Fin 8 × Fin 3)) (k : TcProg F) :
    iprop(records m K ∗ levAts L lv ∗ left c p s ∗ atPos ER (sendCell c p s) 0 ∅ 0 ∗ owing c l)
      ⊢ iprop((semVal (sendCell c p s) 0 ∗ owing c l ∗ aAny c p -∗ runs c k Q)
          -∗ runs c (.op (.waitDma2 (sendS p s) (rSlab p s) (aSlab p) (rExact p s) (aExact p)) fun _ => k) Q) :=
  wp_round (m := m) (K := K) (c := c) (some (false, p, s)) (.dma (sendS p s)) rfl
    (w := .waitDma2 (sendS p s) (rSlab p s) (aSlab p) (rExact p s) (aExact p)) (n := (aSlab p).view.dmaCredit)
    (wpE_waitDma2_eq 𝒱₀ (c : Thread nD τ) none Set.univ) ((credit_a p).trans (expect_own m c (false, p, s)).symm) l
    (fun a _ => Nat.lt_of_lt_of_le Nat.two_pos (Nat.le_add_right _ _)) (aAny c p) (rest_own m c (false, p, s)) (fun _ => k)

/-- The second: the neighbour's partial sum has arrived. -/
theorem wp_arrived (s : Fin 3) (l : List (Fin 8 × Fin 3)) (hl : ∀ a ∈ l, s < a.2) (k : TcProg F) :
    iprop(records m K ∗ levAts L lv ∗ cred (tallyAt (recvCell c p s) () N) ∗ atPos ER (recvCell c p s) 0 ∅ 0 ∗ owing c l)
      ⊢ iprop((semVal (recvCell c p s) 0 ∗ owing c l ∗ rHas m c p s -∗ runs c k Q)
          -∗ runs c (.op (.waitDma2 (recvS p s) (aSlab p) (rSlab p s) (aExact p) (rExact p s)) fun _ => k) Q) :=
  wp_round (m := m) (K := K) (c := c) (some (true, p, s)) (.dma (recvS p s)) rfl
    (w := .waitDma2 (recvS p s) (aSlab p) (rSlab p s) (aExact p) (rExact p s)) (n := (rSlab p s).view.dmaCredit)
    (wpE_waitDma2_eq 𝒱₀ (c : Thread nD τ) none Set.univ) ((credit_r p s).trans (expect_own m c (true, p, s)).symm) l
    (fun a ha => Nat.add_lt_add_left (hl a ha) 2) (rHas m c p s) (rest_own m c (true, p, s)) (fun _ => k)

theorem wp_await (s : Fin 3) (l : List (Fin 8 × Fin 3)) (hl : ∀ a ∈ l, s < a.2) (k : TcProg F) :
    iprop(records m K ∗ levAts L lv ∗ left c p s ∗ canWait c p s ∗ owing c l)
      ⊢ iprop((aAny c p ∗ rHas m c p s ∗ semVal (sendCell c p s) 0 ∗ semVal (recvCell c p s) 0 ∗ owing c l -∗ runs c k Q)
          -∗ runs c (await p s k) Q) := by
  unfold canWait await
  iintro ⟨#HK, #Hlev, HcS, ⟨HcR, HaS, HaR⟩, HO⟩ Hk
  iapply (wp_departed (m := m) (K := K) s l _) $$ [HcS HaS HO]
  · isplitr; · iexact HK
    isplitr; · iexact Hlev
    isplitl [HcS]; · iexact HcS
    isplitl [HaS]; · iexact HaS
    iexact HO
  iintro ⟨HzS, HO, Ha⟩
  iapply (wp_arrived (m := m) (K := K) s l hl k) $$ [HcR HaR HO]
  · isplitr; · iexact HK
    isplitr; · iexact Hlev
    isplitl [HcR]; · iexact HcR
    isplitl [HaR]; · iexact HaR
    iexact HO
  iintro ⟨HzR, HO, Hr⟩
  iapply Hk
  isplitl [Ha]; · iexact Ha
  isplitl [Hr]; · iexact Hr
  isplitl [HzS]; · iexact HzS
  isplitl [HzR]; · iexact HzR
  iexact HO

end Cert.ReduceScatter

end
-- ==== Proof.Passes.lean ====
/-
# The four passes

Each step of a pass takes what it needs for one row block, the staged part of `x` and the list of arrivals still owed; a pass
is one step for every row block, so its rule follows from the step's by induction on the order of the row blocks.
-/
module

public import proofs.«01_k».proof.Proof.Moves
public import Idealize.ShloMosaic.Lib.Pipeline.BigSepL

@[expose] public section

noncomputable section

namespace Cert.ReduceScatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- What never changes: the cells' invariants and the levels. -/
def fixed : sProp 𝕄 := iprop(records m K ∗ levAts L lv)
instance fixed_persistent : BI.Persistent (fixed m K) := by unfold fixed; infer_instance

/-- The result's buffer on device `c`, holding the sum of every row block not in `l`. -/
def outs (c : Dev nD) (l : List (Fin 8)) : sProp 𝕄 :=
  iprop(∃ f : (cc0_stg1_0 : Ref sig .tc).ty.Contents (Elt F), ⌜∀ p, p ∉ l → (oM.access (oRect p)).read (Elt F) f = acc m p 3 c⌝
    ∗ (((c : Thread nD τ).loc cc0_stg1_0) ↦{fullShare} f))

variable {m K} {c : Dev nD} {Q : PUnit.{1} → sProp (MT nD τ sig Unit (Elt F) ℕ UU ℕ)}

/-! ## The steps -/

theorem wp_stepA (p : Fin 8) (l : List (Fin 8 × Fin 3)) (k : TcProg F) :
    iprop(fixed m K ∗ (aAny c p ∗ canSend c p 0) ∗ xPts m c ∗ owing c ((p, 0) :: l))
      ⊢ iprop((left c p 0 ∗ xPts m c ∗ owing c l -∗ runs c k Q) -∗ runs c (stepA c p k) Q) := by
  unfold fixed stepA
  iintro ⟨⟨#HK, -⟩, ⟨Ha, Hs⟩, Hx, HO⟩ Hk
  iapply (wp_getX (m := m) (c := c) (p := p) (Q := Q) 0 _) $$ Hx
  iintro Hx
  iapply (wp_put (c := c) (p := p) (Q := Q) _ _) $$ Ha
  iintro Ha
  iapply (wp_send (m := m) (K := K) (c := c) (p := p) (Q := Q) 0 l k _ (dev_eq c p 0)) $$ [Ha Hs HO]
  · isplitr; · iexact HK
    isplitl [Ha]; · iexact Ha
    isplitl [Hs]; · iexact Hs
    iexact HO
  iintro ⟨Hl, HO⟩
  iapply Hk
  isplitl [Hl]; · iexact Hl
  isplitl [Hx]; · iexact Hx
  iexact HO

/-- The sum that a middle pass makes is the next partial sum. -/
theorem acc_next (p : Fin 8) (s s' : Fin 3) (h : s'.val = s.val + 1) (r : Vec F S1x1x256x512 .bf16) (hr : recvMat r = acc m p s.val (src c p)) :
    addf (recvMat r) (asMat (xblk m c p s'.castSucc)) = acc m p s'.val c := by
  rw [hr, h]
  have e : s'.castSucc = Fin.ofNat 4 (s.val + 1) := by
    refine Fin.ext ?_
    show s'.val = (s.val + 1) % 4
    have := s'.isLt; omega
  rw [e]; rfl

theorem wp_stepB (s s' : Fin 3) (h : s'.val = s.val + 1) (p : Fin 8) (l : List (Fin 8 × Fin 3)) (hl : ∀ a ∈ (p, s') :: l, s < a.2) (k : TcProg F) :
    iprop(fixed m K ∗ (left c p s ∗ canWait c p s ∗ canSend c p s') ∗ xPts m c ∗ owing c ((p, s') :: l))
      ⊢ iprop(((left c p s' ∗ over c p s) ∗ xPts m c ∗ owing c l -∗ runs c k Q) -∗ runs c (stepB s s' c p k) Q) := by
  unfold fixed stepB over
  iintro ⟨⟨#HK, #Hlev⟩, ⟨Hl, Hw, Hs⟩, Hx, HO⟩ Hk
  iapply (wp_await (m := m) (K := K) (c := c) (p := p) (Q := Q) s _ hl _) $$ [Hl Hw HO]
  · isplitr; · iexact HK
    isplitr; · iexact Hlev
    isplitl [Hl]; · iexact Hl
    isplitl [Hw]; · iexact Hw
    iexact HO
  iintro ⟨Ha, Hr, HzS, HzR, HO⟩
  iapply (wp_take (m := m) (c := c) (p := p) (Q := Q) s _)
  isplitl [Hr]; · iexact Hr
  iintro %r %hr Hr
  iapply (wp_getX (m := m) (c := c) (p := p) (Q := Q) s'.castSucc _) $$ Hx
  iintro Hx
  rw [acc_next p s s' h r hr]
  iapply (wp_put (c := c) (p := p) (Q := Q) _ _) $$ Ha
  iintro Ha
  iapply (wp_send (m := m) (K := K) (c := c) (p := p) (Q := Q) s' l k _ (dev_eq c p s')) $$ [Ha Hs HO]
  · isplitr; · iexact HK
    isplitl [Ha]; · iexact Ha
    isplitl [Hs]; · iexact Hs
    iexact HO
  iintro ⟨Hl, HO⟩
  iapply Hk
  isplitl [Hl HzS HzR Hr]
  · isplitl [Hl]; · iexact Hl
    isplitl [HzS]; · iexact HzS
    isplitl [HzR]; · iexact HzR
    iexact Hr
  isplitl [Hx]; · iexact Hx
  iexact HO

theorem wp_stepC (p : Fin 8) (l : List (Fin 8)) (k : TcProg F) :
    iprop(fixed m K ∗ (left c p 2 ∗ canWait c p 2) ∗ xPts m c ∗ owing c [] ∗ outs m c (p :: l))
      ⊢ iprop(((aAny c p ∗ over c p 2) ∗ xPts m c ∗ owing c [] ∗ outs m c l -∗ runs c k Q) -∗ runs c (stepC c p k) Q) := by
  unfold fixed stepC over outs
  iintro ⟨⟨#HK, #Hlev⟩, ⟨Hl, Hw⟩, Hx, HO, ⟨%f, %hf, Ho⟩⟩ Hk
  iapply (wp_await (m := m) (K := K) (c := c) (p := p) (Q := Q) 2 [] (fun a ha => absurd ha List.not_mem_nil) _) $$ [Hl Hw HO]
  · isplitr; · iexact HK
    isplitr; · iexact Hlev
    isplitl [Hl]; · iexact Hl
    isplitl [Hw]; · iexact Hw
    iexact HO
  iintro ⟨Ha, Hr, HzS, HzR, HO⟩
  iapply (wp_take (m := m) (c := c) (p := p) (Q := Q) 2 _)
  isplitl [Hr]; · iexact Hr
  iintro %r %hr Hr
  iapply (wp_getX (m := m) (c := c) (p := p) (Q := Q) 3 _) $$ Hx
  iintro Hx
  iapply (wp_load 𝒱₀ (c : Thread nD τ) none Set.univ (m := oM) (Finset.subset_univ _)) $$ Ho
  iintro Ho
  iapply (wp_store 𝒱₀ (c : Thread nD τ) none Set.univ (m := oM) (r := oRect p) (Mk := Finset.univ) (Finset.subset_univ _)) $$ Ho
  iintro Ho
  iapply Hk
  isplitl [Ha HzS HzR Hr]
  · isplitl [Ha]; · iexact Ha
    isplitl [HzS]; · iexact HzS
    isplitl [HzR]; · iexact HzR
    iexact Hr
  isplitl [Hx]; · iexact Hx
  isplitl [HO]; · iexact HO
  iexists _
  isplitr
  swap; · iexact Ho
  ipureintro
  intro p' hp'
  by_cases e : p' = p
  · subst e
    rw [oRow_write, hr]; rfl
  · rw [oRow_write_ne p p' e]
    exact hf p' fun h => (List.mem_cons.mp h).elim e hp'

/-! ## The passes -/

/-- One pass: `A p` is what the step of row block `p` takes, `B p` what it leaves, `S l` what the steps share while the row
    blocks `l` are still to come. -/
theorem wp_pass {R : sProp (MT nD τ sig Unit (Elt F) ℕ UU ℕ)} [BI.Persistent R] {A B : Fin 8 → sProp (MT nD τ sig Unit (Elt F) ℕ UU ℕ)}
    {S : List (Fin 8) → sProp (MT nD τ sig Unit (Elt F) ℕ UU ℕ)} {step : Fin 8 → TcProg F → TcProg F}
    (h : ∀ p l k, iprop(R ∗ A p ∗ S (p :: l)) ⊢ iprop((B p ∗ S l -∗ runs c k Q) -∗ runs c (step p k) Q)) (k : TcProg F) :
    ∀ l, iprop(R ∗ bigSepL l A ∗ S l) ⊢ iprop((bigSepL l B ∗ S [] -∗ runs c k Q) -∗ runs c (l.foldr step k) Q)
  | [] => by
    iintro ⟨-, -, HS⟩ Hk
    iapply Hk
    isplitr; · rw [bigSepL_nil]; iempintro
    iexact HS
  | p :: l => by
    rw [bigSepL_cons', bigSepL_cons']
    iintro ⟨#HR, ⟨HA, HAs⟩, HS⟩ Hk
    iapply (h p l (l.foldr step k)) $$ [HA HS]
    · isplitr; · iexact HR
      isplitl [HA]; · iexact HA
      iexact HS
    iintro ⟨HB, HS⟩
    iapply (wp_pass h k l) $$ [HAs HS]
    · isplitr; · iexact HR
      isplitl [HAs]; · iexact HAs
      iexact HS
    iintro ⟨HBs, HS⟩
    iapply Hk
    isplitl [HB HBs]
    · isplitl [HB]; · iexact HB
      iexact HBs
    iexact HS

theorem order_univ (A : Fin 8 → sProp 𝕄) : bigSepL order A = bigSep Finset.univ A :=
  (bigSep_univ_eq_bigSepL order (by decide) (by decide) A).symm

/-- The same, over all row blocks. -/
theorem wp_pass_all {R : sProp (MT nD τ sig Unit (Elt F) ℕ UU ℕ)} [BI.Persistent R] {A B : Fin 8 → sProp (MT nD τ sig Unit (Elt F) ℕ UU ℕ)}
    {S : List (Fin 8) → sProp (MT nD τ sig Unit (Elt F) ℕ UU ℕ)} {step : Fin 8 → TcProg F → TcProg F}
    (h : ∀ p l k, iprop(R ∗ A p ∗ S (p :: l)) ⊢ iprop((B p ∗ S l -∗ runs c k Q) -∗ runs c (step p k) Q)) (k : TcProg F) :
    iprop(R ∗ bigSep Finset.univ A ∗ S order) ⊢ iprop((bigSep Finset.univ B ∗ S [] -∗ runs c k Q) -∗ runs c (order.foldr step k) Q) := by
  rw [← order_univ, ← order_univ]
  exact wp_pass h k order

/-- The arrivals owed while a pass sends with pass number `s`, the row blocks `l` to come and `after` the later passes. -/
abbrev pending (s : Fin 3) (after : List (Fin 8 × Fin 3)) (l : List (Fin 8)) : List (Fin 8 × Fin 3) := l.map (·, s) ++ after

theorem pending_above (s s' : Fin 3) (h : s < s') (after : List (Fin 8 × Fin 3)) (ha : ∀ a ∈ after, s < a.2) (l : List (Fin 8)) :
    ∀ a ∈ pending s' after l, s < a.2 := fun a hm => by
  rcases List.mem_append.mp hm with hm | hm
  · obtain ⟨p, -, rfl⟩ := List.mem_map.mp hm; exact h
  · exact ha a hm

theorem wp_passA (after : List (Fin 8 × Fin 3)) (k : TcProg F) :
    iprop(fixed m K ∗ (bigSep Finset.univ fun p => iprop(aAny c p ∗ canSend c p 0)) ∗ xPts m c ∗ owing c (pending 0 after order))
      ⊢ iprop(((bigSep Finset.univ fun p => left c p 0) ∗ xPts m c ∗ owing c after -∗ runs c k Q) -∗ runs c (order.foldr (stepA c) k) Q) :=
  wp_pass_all (S := fun l => iprop(xPts m c ∗ owing c (pending 0 after l))) (fun p l k => wp_stepA p _ k) k

theorem wp_passB (s s' : Fin 3) (h : s'.val = s.val + 1) (after : List (Fin 8 × Fin 3)) (ha : ∀ a ∈ after, s < a.2) (k : TcProg F) :
    iprop(fixed m K ∗ (bigSep Finset.univ fun p => iprop(left c p s ∗ canWait c p s ∗ canSend c p s')) ∗ xPts m c ∗ owing c (pending s' after order))
      ⊢ iprop(((bigSep Finset.univ fun p => iprop(left c p s' ∗ over c p s)) ∗ xPts m c ∗ owing c after -∗ runs c k Q)
          -∗ runs c (order.foldr (stepB s s' c) k) Q) :=
  wp_pass_all (S := fun l => iprop(xPts m c ∗ owing c (pending s' after l)))
    (fun p l k => wp_stepB s s' h p _ (pending_above s s' (by rw [Fin.lt_def]; omega) after ha (p :: l)) k) k

theorem wp_passC (k : TcProg F) :
    iprop(fixed m K ∗ (bigSep Finset.univ fun p => iprop(left c p 2 ∗ canWait c p 2)) ∗ xPts m c ∗ owing c [] ∗ outs m c order)
      ⊢ iprop(((bigSep Finset.univ fun p => iprop(aAny c p ∗ over c p 2)) ∗ xPts m c ∗ owing c [] ∗ outs m c [] -∗ runs c k Q)
          -∗ runs c (order.foldr (stepC c) k) Q) :=
  wp_pass_all (S := fun l => iprop(xPts m c ∗ owing c [] ∗ outs m c l)) (fun p l k => wp_stepC p l k) k

/-- A family over row blocks and passes, pass by pass. -/
theorem by_pass (A : Fin 8 → Fin 3 → sProp 𝕄) : (bigSep Finset.univ fun p => bigSep Finset.univ fun s => A p s)
    = iprop((bigSep Finset.univ fun p => A p 0) ∗ (bigSep Finset.univ fun p => A p 1) ∗ bigSep Finset.univ fun p => A p 2) := by
  have h (p : Fin 8) : bigSep Finset.univ (A p) = iprop(A p 0 ∗ A p 1 ∗ A p 2) := bigSep_univ_eq_bigSepL [0, 1, 2] (by decide) (by decide) (A p)
  rw [bigSep_congr fun p _ => h p, bigSep_sep', bigSep_sep']

theorem wp_passes :
    iprop(fixed m K ∗ (bigSep Finset.univ fun p => aAny c p) ∗ (bigSep Finset.univ fun p => bigSep Finset.univ fun s => canSend c p s)
        ∗ (bigSep Finset.univ fun p => bigSep Finset.univ fun s => canWait c p s) ∗ xPts m c ∗ owing c sends
        ∗ ∃ f : (cc0_stg1_0 : Ref sig .tc).ty.Contents (Elt F), (((c : Thread nD τ).loc cc0_stg1_0) ↦{fullShare} f))
      ⊢ iprop((((bigSep Finset.univ fun p => aAny c p) ∗ bigSep Finset.univ fun p => bigSep Finset.univ fun s => over c p s)
            ∗ xPts m c ∗ owing c [] ∗ outs m c [] -∗ Q ⟨⟩) -∗ runs c (passes c) Q) := by
  rw [by_pass, by_pass, by_pass]
  unfold passes sends
  iintro ⟨#HF, Ha, ⟨Hs0, Hs1, Hs2⟩, ⟨Hw0, Hw1, Hw2⟩, Hx, HO, %f, Ho⟩ Hk
  iapply (wp_passA (m := m) (K := K) (c := c) (Q := Q) (order.map (·, 1) ++ order.map (·, 2)) _) $$ [Ha Hs0 Hx HO]
  · isplitr; · iexact HF
    isplitl [Ha Hs0]
    · rw [bigSep_sep']; isplitl [Ha]; · iexact Ha
      iexact Hs0
    isplitl [Hx]; · iexact Hx
    iexact HO
  iintro ⟨Hl, Hx, HO⟩
  iapply (wp_passB (m := m) (K := K) (c := c) (Q := Q) 0 1 rfl (order.map (·, 2)) (by decide) _) $$ [Hl Hw0 Hs1 Hx HO]
  · isplitr; · iexact HF
    isplitl [Hl Hw0 Hs1]
    · rw [bigSep_sep', bigSep_sep']; isplitl [Hl]; · iexact Hl
      isplitl [Hw0]; · iexact Hw0
      iexact Hs1
    isplitl [Hx]; · iexact Hx
    iexact HO
  rw [bigSep_sep']
  iintro ⟨⟨Hl, H0⟩, Hx, HO⟩
  iapply (wp_passB (m := m) (K := K) (c := c) (Q := Q) 1 2 rfl [] (fun a ha => absurd ha List.not_mem_nil) _) $$ [Hl Hw1 Hs2 Hx HO]
  · isplitr; · iexact HF
    isplitl [Hl Hw1 Hs2]
    · rw [bigSep_sep', bigSep_sep']; isplitl [Hl]; · iexact Hl
      isplitl [Hw1]; · iexact Hw1
      iexact Hs2
    isplitl [Hx]; · iexact Hx
    rw [pending, List.append_nil]; iexact HO
  rw [bigSep_sep']
  iintro ⟨⟨Hl, H1⟩, Hx, HO⟩
  iapply (wp_passC (m := m) (K := K) (c := c) (Q := Q) _) $$ [Hl Hw2 Hx HO Ho]
  · isplitr; · iexact HF
    isplitl [Hl Hw2]
    · rw [bigSep_sep']; isplitl [Hl]; · iexact Hl
      iexact Hw2
    isplitl [Hx]; · iexact Hx
    isplitl [HO]; · iexact HO
    unfold outs
    iexists f
    isplitr; · ipureintro; exact fun p hp => absurd ((by decide : ∀ p, p ∈ order) p) hp
    iexact Ho
  rw [bigSep_sep']
  iintro ⟨⟨Ha, H2⟩, Hx, HO, Ho⟩
  unfold runs; rw [wp_ret]; imodintro
  iapply Hk
  isplitl [Ha H0 H1 H2]
  · isplitl [Ha]; · iexact Ha
    isplitl [H0]; · iexact H0
    isplitl [H1]; · iexact H1
    iexact H2
  isplitl [Hx]; · iexact Hx
  isplitl [HO]; · iexact HO
  iexact Ho

end Cert.ReduceScatter

end
-- ==== Proof.Body.lean ====
/-
# The body, from the launch's state to its end

The handshake: a device hands each neighbour the slabs of its receive buffer that the neighbour will fill, and receives both
neighbours' in return. Then the four passes. At the end the scratch buffers are whole again, every semaphore is at zero and
the result's buffer holds `outAt`.
-/
module

public import proofs.«01_k».proof.Proof.Passes

@[expose] public section

noncomputable section

namespace Cert.ReduceScatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (K : Dev nD × CI → ℕ)

/-! ## The result -/

/-- The position of a row of the result inside its row block. -/
def inRow (i : S2048x512.Idx) : S256x512.Idx := fun a => match a with
  | 0 => ⟨(i 0).val % 256, Nat.mod_lt _ (by decide)⟩
  | 1 => i 1
/-- The row block of a row of the result. -/
def rowOf (i : S2048x512.Idx) : Fin 8 := ⟨(i 0).val / 256, by have : (i 0).val < 2048 := (i 0).isLt; omega⟩

/-- The result on device `c`: row block `p` is the sum that pass 3 makes of it. -/
def outAt (c : Dev nD) : (cc0_stg1_0 : Ref sig .tc).ty.Contents (Elt F) := fun i => acc m (rowOf i) 3 c (inRow i)

theorem row_place (i : S2048x512.Idx) : (oM.access (oRect (rowOf i))).emb (inRow i) = i := by
  refine funext fun a => Fin.ext ?_
  fin_cases a
  · show 256 * ((i 0).val / 256) + 1 * ((i 0).val % 256) = (i 0).val
    omega
  · show 0 + 1 * (i 1).val = (i 1).val
    omega

theorem out_of_rows (c : Dev nD) (f : (cc0_stg1_0 : Ref sig .tc).ty.Contents (Elt F))
    (h : ∀ p, (oM.access (oRect p)).read (Elt F) f = acc m p 3 c) : f = outAt m c := by
  funext i
  have := congrFun (h (rowOf i)) (inRow i)
  unfold outAt
  rw [← this]
  show f i = f ((oM.access (oRect (rowOf i))).emb (inRow i))
  rw [row_place]

/-! ## What the launch deals each device -/

/-- Device `c`'s positions, and the duties it pays. -/
def linear (c : Dev nD) : sProp 𝕄 :=
  iprop(atPos ER (barCell c) 0 ∅ 0 ∗ dutyTok ER (barCell (prv c)) 0 true ∗ dutyTok ER (barCell (nxt c)) 0 false
    ∗ (bigSep Finset.univ fun p => bigSep Finset.univ fun s => iprop(atPos ER (sendCell c p s) 0 ∅ 0 ∗ atPos ER (recvCell c p s) 0 ∅ 0))
    ∗ (bigSep Finset.univ fun p => bigSep Finset.univ fun s => iprop(dutyTok ER (sendCell c p s) 0 false ∗ dutyTok ER (recvCell (tgt c p) p s) 0 false)))

/-- The credits it waits with. -/
def creds (c : Dev nD) : sProp 𝕄 :=
  iprop(cred (tallyAt (barCell c) () 2) ∗ bigSep Finset.univ fun p => bigSep Finset.univ fun s => cred (tallyAt (recvCell c p s) () N))

def start (c : Dev nD) : sProp 𝕄 := iprop((∃ K, records m K ∗ linear c) ∗ creds c ∗ levAts L lv)

/-- The two scratch buffers. -/
def scratch (c : Dev nD) : sProp 𝕄 :=
  iprop((∃ f, ((c : Thread nD τ).loc cc0_scratch0) ↦{fullShare} f) ∗ ∃ f, ((c : Thread nD τ).loc cc0_scratch1) ↦{fullShare} f)

def Φ₀ (c : Dev nD) : sProp 𝕄 := iprop(start m c ∗ scratch c)
def Φ₁ (c : Dev nD) : sProp 𝕄 :=
  iprop(scratch c ∗ (bigSep Finset.univ fun p => bigSep Finset.univ fun s => iprop(semVal (sendCell c p s) 0 ∗ semVal (recvCell c p s) 0))
    ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The handshake -/

theorem fold2 {A B : Fin 8 → Fin 3 → sProp 𝕄} : (bigSep Finset.univ fun p => bigSep Finset.univ fun s => iprop(A p s ∗ B p s))
    = iprop((bigSep Finset.univ fun p => bigSep Finset.univ fun s => A p s) ∗ bigSep Finset.univ fun p => bigSep Finset.univ fun s => B p s) := by
  rw [bigSep_congr fun p _ => bigSep_sep' Finset.univ (A p) (B p), bigSep_sep']

/-- A family over the row blocks, those of one direction and those of the other. -/
theorem by_direction (A : Fin 8 → sProp 𝕄) : bigSep Finset.univ A
    = iprop((bigSep (Finset.univ.filter fun p => fwd p = true) A) ∗ bigSep (Finset.univ.filter fun p => fwd p = false) A) := by
  rw [bigSep_filter_split Finset.univ (fun p => fwd p = true)]
  refine congrArg (BI.sep _) (congrArg (fun s => bigSep s A) (Finset.filter_congr fun p _ => ?_))
  exact Bool.not_eq_true _ ▸ Iff.rfl

/-- What device `c` hands each neighbour: its own slabs that the neighbour fills. -/
theorem hand_prv (c : Dev nD) : (bigSep (Finset.univ.filter fun p => fwd p = true) fun p => bigSep Finset.univ fun s => rAny c p s : sProp 𝕄)
    = barPay (prv c) true := bigSep_congr fun p hp => by
  have : tgt (prv c) p = c := by unfold tgt; rw [if_pos (Finset.mem_filter.mp hp).2, nxt_prv]
  rw [this]
theorem hand_nxt (c : Dev nD) : (bigSep (Finset.univ.filter fun p => fwd p = false) fun p => bigSep Finset.univ fun s => rAny c p s : sProp 𝕄)
    = barPay (nxt c) false := bigSep_congr fun p hp => by
  have : tgt (nxt c) p = c := by unfold tgt; rw [if_neg (by rw [(Finset.mem_filter.mp hp).2]; decide), prv_nxt]
  rw [this]
/-- What it receives: all slabs that it fills. -/
theorem handed (c : Dev nD) : (iprop(barPay c true ∗ barPay c false) : sProp 𝕄)
    = bigSep Finset.univ fun p => bigSep Finset.univ fun s => rAny (tgt c p) p s := (by_direction _).symm

variable {m K} {c : Dev nD} {Q : PUnit.{1} → sProp (MT nD τ sig Unit (Elt F) ℕ UU ℕ)}

/-- One raise of a neighbour's barrier cell. -/
theorem wp_raise (n c' : Dev nD) (hn : n = c') (d : Bool) (O : CellTallies nD τ sig Unit) (W : Waits sig Unit) (k : TcProg F) :
    iprop(records m K ∗ owes (c : Thread nD τ) (O + tallyAt (barCell c') () 1) W ∗ dutyTok ER (barCell c') 0 d ∗ barPay c' d)
      ⊢ iprop((owes (c : Thread nD τ) O W -∗ runs c k Q)
          -∗ runs c (semSignalWord n barS 1#32 >>= fun _ => k) Q) := by
  subst hn
  simp only [semSignalWord, Prog.lift, Prog.bind_op, Prog.bind_ret]
  iintro ⟨#HK, HO, Ht, Hp⟩ Hk
  iapply (Rounds.wp_signal 𝒱₀ ER (ringRd m) (c : Thread nD τ) none (dst := (n : Thread nD τ)) (κ := K (n, none)) (r := 0)
      (d := d) (by rw [duties_bar]; exact Finset.mem_univ _) ((amount_cell m n none d).trans (by decide)) () O rfl)
    $$ [HO Ht Hp]
  · isplitr; · iapply (inv_at m K (n, none)); iexact HK
    isplitl [HO]; · iexact HO
    isplitl [Ht]; · iexact Ht
    isplitl [Hp]; · rw [payload_bar]; iexact Hp
    iapply (reached_at m K (n, none)); iexact HK
  iintro HO
  iapply Hk
  iexact HO

/-- The wait for both neighbours' raises. -/
theorem wp_met (l : List (Fin 8 × Fin 3)) (k : TcProg F) :
    iprop(records m K ∗ levAts L lv ∗ cred (tallyAt (barCell c) () 2) ∗ atPos ER (barCell c) 0 ∅ 0 ∗ owing c l)
      ⊢ iprop((semVal (barCell c) 0 ∗ owing c l ∗ (barPay c true ∗ barPay c false) -∗ runs c k Q)
          -∗ runs c (semWaitWord barS 2#32 >>= fun _ => k) Q) := by
  simp only [semWaitWord, Prog.lift, Prog.bind_op, Prog.bind_ret]
  exact wp_round (m := m) (K := K) (c := c) none (.reg barS) rfl (n := 2) (wpE_semWait_eq 𝒱₀ (c : Thread nD τ) none Set.univ)
    (expect_bar m c).symm l (fun a _ => Nat.lt_of_lt_of_le (by decide : 1 < 2) (Nat.le_add_right _ _)) _ (rest_bar m c) (fun _ => k)

/-! ## The body -/

theorem wp_body (W : Waits sig Unit) :
    iprop((records m K ∗ linear c) ∗ creds c ∗ levAts L lv ∗ scratch c ∗ owes (c : Thread nD τ) (O₀ c) W ∗ xPts m c
        ∗ ∃ f : (cc0_stg1_0 : Ref sig .tc).ty.Contents (Elt F), (((c : Thread nD τ).loc cc0_stg1_0) ↦{fullShare} f))
      ⊢ iprop((Φ₁ c ∗ xPts m c ∗ (∃ W, owes (c : Thread nD τ) 0 W) ∗ (((c : Thread nD τ).loc cc0_stg1_0) ↦{fullShare} outAt m c) -∗ Q ⟨⟩)
          -∗ runs c body Q) := by
  unfold body runs
  rw [wp_deviceId]
  unfold linear creds scratch
  rw [fold2, fold2]
  iintro ⟨⟨#HK, HaB, HtP, HtN, ⟨HaS, HaR⟩, ⟨HtS, HtR⟩⟩, ⟨HcB, HcR⟩, #Hlev, ⟨Ha, Hr⟩, HO, Hx, Ho⟩ Hk
  ihave Ha := (aBuf_split c) $$ Ha
  ihave Hr := ((rBuf_split c).trans (Entails.of_eq (by_direction _))) $$ Hr
  icases Hr with ⟨Hrt, Hrf⟩
  iapply (wp_raise (m := m) (K := K) (c := c) (Q := Q) _ _ (dev1_eq c) true (O₁ c) W _) $$ [HO HtP Hrt]
  · isplitr; · iexact HK
    isplitl [HO]; · iexact HO
    isplitl [HtP]; · iexact HtP
    iapply (Entails.of_eq (hand_prv c)); iexact Hrt
  iintro HO
  iapply (wp_raise (m := m) (K := K) (c := c) (Q := Q) _ _ (dev2_eq c) false (owedL c sends) W _) $$ [HO HtN Hrf]
  · isplitr; · iexact HK
    isplitl [HO]; · iexact HO
    isplitl [HtN]; · iexact HtN
    iapply (Entails.of_eq (hand_nxt c)); iexact Hrf
  iintro HO
  iapply (wp_met (m := m) (K := K) (c := c) (Q := Q) sends _) $$ [HcB HaB HO]
  · isplitr; · iexact HK
    isplitr; · iexact Hlev
    isplitl [HcB]; · iexact HcB
    isplitl [HaB]; · iexact HaB
    unfold owing; iexists W; iexact HO
  iintro ⟨HzB, HO, Hp⟩
  ihave Hp := (Entails.of_eq (handed c)) $$ Hp
  iapply (wp_passes (m := m) (K := K) (c := c) (Q := Q)) $$ [Ha Hp HtS HtR HcR HaS HaR Hx HO Ho]
  · isplitr; · unfold fixed; isplitl; · iexact HK
               iexact Hlev
    isplitl [Ha]; · iexact Ha
    isplitl [Hp HtS HtR]
    · unfold canSend; rw [fold2, fold2]
      isplitl [HtS]; · iexact HtS
      isplitl [HtR]; · iexact HtR
      iexact Hp
    isplitl [HcR HaS HaR]
    · unfold canWait; rw [fold2, fold2]
      isplitl [HcR]; · iexact HcR
      isplitl [HaS]; · iexact HaS
      iexact HaR
    isplitl [Hx]; · iexact Hx
    isplitl [HO]; · iexact HO
    iexact Ho
  unfold over
  rw [fold2, fold2]
  iintro ⟨⟨Ha, HzS, HzR, Hr⟩, Hx, HO, Ho⟩
  iapply Hk
  unfold Φ₁ scratch
  rw [fold2]
  isplitl [Ha HzS HzR Hr HzB]
  · isplitl [Ha Hr]
    · isplitl [Ha]; · iapply (aBuf_join c); iexact Ha
      iapply (rBuf_join c); iexact Hr
    isplitl [HzS HzR]
    · isplitl [HzS]; · iexact HzS
      iexact HzR
    iexact HzB
  isplitl [Hx]; · iexact Hx
  isplitl [HO]; · unfold owing; iexact HO
  unfold outs
  icases Ho with ⟨%f, %hf, Ho⟩
  rw [← out_of_rows m c f fun p => hf p List.not_mem_nil]
  iexact Ho

end Cert.ReduceScatter

end
-- ==== Proof.Deal.lean ====
/-
# What the launch deals

The launch owns every semaphore at zero and the schedule's initial state. From these it allocates every cell's invariant and
deals each device the positions of its own cells and the tokens of the duties it pays, which are duties of its neighbours'
cells.
-/
module

public import proofs.«01_k».proof.Proof.Body

@[expose] public section

noncomputable section

namespace Cert.ReduceScatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over the cells of one device -/

theorem own_split (A : Own → sProp 𝕄) : bigSep Finset.univ A
    = iprop((bigSep Finset.univ fun p => bigSep Finset.univ fun s => A (false, p, s)) ∗ bigSep Finset.univ fun p => bigSep Finset.univ fun s => A (true, p, s)) := by
  have h (B : Bool → sProp 𝕄) : bigSep Finset.univ B = iprop(B false ∗ B true) := bigSep_univ_eq_bigSepL [false, true] (by decide) (by decide) B
  rw [bigSep_univ_prod, h, bigSep_univ_prod, bigSep_univ_prod]

theorem option_split {I : Type} [Fintype I] [DecidableEq I] (A : Option I → sProp 𝕄) : bigSep Finset.univ A
    = iprop(A none ∗ bigSep Finset.univ fun o => A (some o)) := by
  rw [bigSep_univ_equiv ((Equiv.sumComm PUnit.{1} I).trans (Equiv.optionEquivSumPUnit I).symm), bigSep_univ_sum, bigSep_univ_of_subsingleton PUnit.unit]
  rfl

/-- Those of the departure cells and of the arrival cells, together. -/
theorem cells_split (A : CI → sProp 𝕄) : bigSep Finset.univ A
    = iprop(A none ∗ (bigSep Finset.univ fun p => bigSep Finset.univ fun s => A (some (false, p, s)))
        ∗ bigSep Finset.univ fun p => bigSep Finset.univ fun s => A (some (true, p, s))) := by
  rw [option_split, own_split]

/-! ## The initial state -/

def ringCells : Finset (GSem nD τ sig) := Finset.univ.map ⟨kcell, kcell_injective⟩

/-- The duties of a device's own cells: `false` of each cell, and `true` of the barrier cell. -/
def tokOf (a : Dev nD × Option CI) : GSem nD τ sig × ℕ × Bool := match a.2 with
  | none => (barCell a.1, 0, true)
  | some i => (kcell (a.1, i), 0, false)
theorem tokOf_injective : Function.Injective tokOf := by
  rintro ⟨c, i⟩ ⟨c', i'⟩ h
  have hd := congrArg (fun x => x.2.2) h
  have hg := congrArg Prod.fst h
  cases i <;> cases i'
  · have := kcell_injective (a₁ := (c, none)) (a₂ := (c', none)) hg
    exact congrArg (fun x => (x.1, none)) this
  · exact absurd (show true = false from hd) (by decide)
  · exact absurd (show false = true from hd) (by decide)
  · have := kcell_injective hg
    exact congrArg (fun x => (x.1, some x.2)) this
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of the duties of device `c`'s own cells. -/
def toks (c : Dev nD) : sProp 𝕄 :=
  iprop(dutyTok ER (barCell c) 0 true ∗ bigSep Finset.univ fun i : CI => dutyTok ER (kcell (c, i)) 0 false)

def G (c : Dev nD) : sProp 𝕄 :=
  iprop((bigSep Finset.univ fun i => roundState ER (ringRd m) (kcell (c, i)) 0)
    ∗ (bigSep Finset.univ fun i => atPos ER (kcell (c, i)) 0 ∅ 0) ∗ (bigSep Finset.univ fun i => reached ER (kcell (c, i)) 0) ∗ toks c)

def G' (c : Dev nD) : sProp 𝕄 := iprop(∃ K, records m K ∗ linear c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : CI => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [option_split]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The semaphores -/

theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = bigSep Finset.univ fun p => bigSep Finset.univ fun s => iprop(semVal (sendCell c p s) 0 ∗ semVal (recvCell c p s) 0) := by
  rw [fold2]; exact own_split fun o => semVal ((c : Thread nD τ), osem o) 0
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [unscopedSems0_eq, option_split]
  unfold Pipeline.ownSems0
  iintro ⟨HO, HB⟩
  isplitl [HB]; · iexact HB
  iexact HO

/-! ## The allocation -/

/-- One device's invariants, under whatever names they are allocated at. -/
abbrev allocated (c : Dev nD) : sProp 𝕄 :=
  iprop((bigSep Finset.univ fun i : CI => iprop(∃ κ : ℕ, cellInv ER (ringRd m) κ (kcell (c, i))))
    ∗ (bigSep Finset.univ fun i : CI => atPos ER (kcell (c, i)) 0 ∅ 0) ∗ (bigSep Finset.univ fun i : CI => reached ER (kcell (c, i)) 0) ∗ toks c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> allocated m c := by
  unfold G
  iintro ⟨Hos, Hus, Hst, Hrest⟩
  ihave Hv := (sems0_eq (F := F) c) $$ [Hos Hus]
  · isplitl [Hos]; · iexact Hos
    iexact Hus
  imod (show iprop((bigSep Finset.univ fun i : CI => semVal (kcell (c, i)) 0) ∗ bigSep Finset.univ fun i : CI => roundState ER (ringRd m) (kcell (c, i)) 0)
      ⊢ (|={Set.univ}=> bigSep Finset.univ fun i => iprop(∃ κ : ℕ, cellInv ER (ringRd m) κ (kcell (c, i))) : sProp 𝕄) from by
        rw [← bigSep_sep']
        exact (bigSep_mono fun i _ => (Rounds.body_intro ER (ringRd m) (kcell (c, i))).trans inv_alloc).trans (bigSep_fupd _ _)) $$ [Hv Hst] with Hinv
  · isplitl [Hv]; · iexact Hv
    iexact Hst
  imodintro
  isplitl [Hinv]; · iexact Hinv
  iexact Hrest

/-! ## The deal -/

/-- The tokens of the duties device `c` pays. -/
def payToks (c : Dev nD) : sProp 𝕄 :=
  iprop(dutyTok ER (barCell (prv c)) 0 true ∗ dutyTok ER (barCell (nxt c)) 0 false
    ∗ (bigSep Finset.univ fun p => bigSep Finset.univ fun s => dutyTok ER (sendCell c p s) 0 false)
    ∗ bigSep Finset.univ fun p => bigSep Finset.univ fun s => dutyTok ER (recvCell (tgt c p) p s) 0 false)

/-- A family over devices and row blocks, counted where the row blocks arrive or where they come from. -/
theorem along_route (A : Dev nD → Fin 8 → sProp 𝕄) : (bigSep Finset.univ fun c => bigSep Finset.univ fun p => A c p)
    = bigSep Finset.univ fun c => bigSep Finset.univ fun p => A (tgt c p) p := by
  rw [← bigSep_univ_prod (fun a : Dev nD × Fin 8 => A a.1 a.2), bigSep_univ_equiv route, bigSep_univ_prod]; rfl

theorem toks_around : (bigSep Finset.univ fun c : Dev nD => (toks c : sProp 𝕄)) ⊢ bigSep Finset.univ fun c : Dev nD => payToks c := by
  rw [bigSep_congr fun (c : Dev nD) _ => show (toks c : sProp 𝕄) = iprop(_ ∗ _ ∗ _ ∗ _) by unfold toks; rw [cells_split]]
  unfold payToks
  rw [bigSep_sep', bigSep_sep', bigSep_sep', bigSep_sep', bigSep_sep', bigSep_sep',
    bigSep_univ_equiv ring.symm (fun c : Dev nD => (dutyTok ER (barCell c) 0 true : sProp 𝕄)),
    bigSep_univ_equiv ring (fun c : Dev nD => (dutyTok ER (kcell (c, none)) 0 false : sProp 𝕄)),
    along_route fun c p => bigSep Finset.univ fun s => (dutyTok ER (kcell (c, some (true, p, s))) 0 false : sProp 𝕄)]
  iintro ⟨H1, H2, H3, H4⟩
  isplitl [H1]; · iexact H1
  isplitl [H2]; · iexact H2
  isplitl [H3]; · iexact H3
  iexact H4

theorem linear_eq (c : Dev nD) : iprop((bigSep Finset.univ fun i : CI => atPos ER (kcell (c, i)) 0 ∅ 0) ∗ payToks c) ⊢ (linear c : sProp 𝕄) := by
  unfold payToks linear
  rw [cells_split, fold2, fold2]
  iintro ⟨⟨HaB, HaS, HaR⟩, HtP, HtN, HtS, HtR⟩
  isplitl [HaB]; · iexact HaB
  isplitl [HtP]; · iexact HtP
  isplitl [HtN]; · iexact HtN
  isplitl [HaS HaR]
  · isplitl [HaS]; · iexact HaS
    iexact HaR
  isplitl [HtS]; · iexact HtS
  iexact HtR

theorem regroup : (bigSep Finset.univ fun c : Dev nD => allocated m c) ⊢ bigSep Finset.univ (G' m) := by
  rw [bigSep_sep', bigSep_sep', bigSep_sep', ← bigSep_univ_prod (fun ck : Dev nD × CI => iprop(∃ κ : ℕ, cellInv ER (ringRd m) κ (kcell ck))),
    ← bigSep_univ_prod (fun ck : Dev nD × CI => (reached ER (kcell ck) 0 : sProp 𝕄))]
  iintro ⟨HI, Hat, #HR, Htok⟩
  ihave HK := (BI.bigSep_exists_pi Finset.univ (fun (ck : Dev nD × CI) (κ : ℕ) => (cellInv ER (ringRd m) κ (kcell ck) : sProp 𝕄))) $$ HI
  icases HK with ⟨%K, #HI⟩
  ihave Htk := (toks_around (F := F)) $$ Htok
  iapply (bigSep_with_persistent (R := records m K) (Φ := fun c : Dev nD => linear c) fun c _ => show iprop(records m K ∗ linear c) ⊢ G' m c from by
    unfold G'; iintro H; iexists K; iexact H)
  isplitr
  · unfold records; isplitl; · iexact HI
    iexact HR
  · iapply ((Entails.of_eq (bigSep_sep' Finset.univ (fun c : Dev nD => bigSep Finset.univ fun i : CI => (atPos ER (kcell (c, i)) 0 ∅ 0 : sProp 𝕄)) payToks).symm).trans
      (bigSep_mono fun c _ => linear_eq c))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.ReduceScatter

end
-- ==== Proof.Launch.lean ====
/-
# The run

The credits the launch hands out, and the run of the whole program on four devices from what the modules before prove.
-/
module

public import proofs.«01_k».proof.Proof.Deal
public import Idealize.ShloMosaic.Lib.Pipeline.CollectiveSegs
public import Idealize.ShloMosaic.Lib.Quiescent

@[expose] public section

noncomputable section

namespace Cert.ReduceScatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## The launch credit -/

theorem tally_cell (a b : Dev nD × CI) (n : ℕ) : (tallyAt (kcell a) () n : CellTallies nD τ sig Unit) (kcell b) () = if b = a then n else 0 := by
  rw [tallyAt_apply]
  by_cases h : b = a
  · subst h; rw [if_pos ⟨rfl, rfl⟩, if_pos rfl]
  · rw [if_neg fun h' => h (kcell_injective h'.1), if_neg h]

/-- Every listed arrival that is `c`'s is owed by the device it comes from. -/
theorem owedL_recv (d c : Dev nD) (p : Fin 8) (s : Fin 3) (l : List (Fin 8 × Fin 3)) :
    owedL d l (recvCell c p s) () = if d = src c p then l.count (p, s) * N else 0 := by
  induction l with
  | nil => rw [List.count_nil, Nat.zero_mul, ite_self]; rfl
  | cons a l ih =>
    show (owedL d l + tallyAt (recvCell (tgt d a.1) a.1 a.2) () N) (recvCell c p s) () = _
    rw [Pi.add_apply, Finsupp.add_apply, ih, recv_kcell c p s, recv_kcell (tgt d a.1) a.1 a.2, tally_cell, List.count_cons]
    by_cases ha : a = (p, s)
    · subst ha
      rw [if_pos (beq_self_eq_true _)]
      by_cases h : d = src c p
      · subst h; rw [if_pos rfl, if_pos rfl, if_pos (by rw [tgt_src]), Nat.add_mul, Nat.one_mul]
      · rw [if_neg h, if_neg h, if_neg fun e => h (by rw [show c = tgt d p from congrArg Prod.fst e, src_tgt])]
    · rw [if_neg (c := (a == (p, s)) = true) (by simpa using ha), Nat.add_zero, if_neg (c := (c, some (true, p, s)) = (tgt d a.1, some (true, a.1, a.2))) (fun e => ha (by
        have := Option.some.inj (congrArg Prod.snd e)
        exact (Prod.ext_iff.mp this).2.symm)), Nat.add_zero]

theorem owedL_bar (d c : Dev nD) (l : List (Fin 8 × Fin 3)) : owedL d l (barCell c) () = 0 := by
  by_contra h
  obtain ⟨a, -, e⟩ := owedL_pos (Nat.pos_of_ne_zero h)
  exact absurd (congrArg Prod.snd (kcell_injective (a₁ := (c, none)) e)) (by simp)

theorem owed_recv (d c : Dev nD) (p : Fin 8) (s : Fin 3) : O₀ d (recvCell c p s) () = if d = src c p then N else 0 := by
  unfold O₀ O₁
  rw [Pi.add_apply, Finsupp.add_apply, Pi.add_apply, Finsupp.add_apply, owedL_recv, bar_kcell, bar_kcell, recv_kcell, tally_cell, tally_cell,
    if_neg (fun e => Option.some_ne_none _ (congrArg Prod.snd e)), if_neg (fun e => Option.some_ne_none _ (congrArg Prod.snd e)), Nat.add_zero,
    (by decide : ∀ a, sends.count a = 1) (p, s), Nat.one_mul]

theorem owed_bar (d c : Dev nD) : O₀ d (barCell c) () = (if d = prv c then 1 else 0) + (if d = nxt c then 1 else 0) := by
  unfold O₀ O₁
  rw [Pi.add_apply, Finsupp.add_apply, Pi.add_apply, Finsupp.add_apply, owedL_bar, bar_kcell, bar_kcell, bar_kcell, tally_cell, tally_cell, Nat.zero_add]
  refine congrArg₂ (· + ·) (if_congr ?_ rfl rfl) (if_congr ?_ rfl rfl)
  · exact ⟨fun e => by rw [show c = nxt d from congrArg Prod.fst e, prv_nxt], fun e => by rw [e, nxt_prv]⟩
  · exact ⟨fun e => by rw [show c = prv d from congrArg Prod.fst e, nxt_prv], fun e => by rw [e, prv_nxt]⟩

/-- A cell's launch credit is what the devices owe it in all. -/
theorem launch_cell (i : CI) (c : Dev nD) (n : ℕ) (h : ∑ d : Dev nD, O₀ d (kcell (c, i)) () = n) :
    tallyOn (kcell (c, i)) (launchCredit (Pipeline.owing O₀) 0 (kcell (c, i))) = (tallyAt (kcell (c, i)) () n : CellTallies nD τ sig Unit) := by
  unfold tallyAt; refine congrArg _ (Finsupp.ext fun u => ?_); cases u
  rw [Pipeline.launchCredit_owing, Finsupp.single_eq_same, h]

theorem launch_bar (c : Dev nD) : ∑ d : Dev nD, O₀ d (kcell (c, none)) () = 2 := by
  rw [← bar_kcell, Finset.sum_congr rfl fun d _ => owed_bar d c, Finset.sum_add_distrib, Finset.sum_ite_eq' Finset.univ (prv c) fun _ => 1,
    Finset.sum_ite_eq' Finset.univ (nxt c) fun _ => 1, if_pos (Finset.mem_univ _), if_pos (Finset.mem_univ _)]
theorem launch_recv (c : Dev nD) (p : Fin 8) (s : Fin 3) : ∑ d : Dev nD, O₀ d (kcell (c, some (true, p, s))) () = N := by
  rw [← recv_kcell, Finset.sum_congr rfl fun d _ => owed_recv d c p s, Finset.sum_ite_eq' Finset.univ (src c p) fun _ => N, if_pos (Finset.mem_univ _)]

/-- Of a family over all semaphores, the barrier's and the arrivals'. -/
theorem waited_on (A : SemLoc sig → sProp 𝕄) : bigSep Finset.univ A
    ⊢ iprop(A (csem none) ∗ bigSep Finset.univ fun p => bigSep Finset.univ fun s => A (csem (some (true, p, s)))) := by
  have h : (bigSep Finset.univ A : sProp 𝕄) ⊢ bigSep Finset.univ fun i : CI => A (csem i) :=
    (bigSep_subset (Finset.subset_univ ((Finset.univ : Finset CI).map ⟨csem, csem_injective⟩))).trans (Entails.of_eq (bigSep_map _))
  rw [cells_split] at h
  iintro H
  ihave H := h $$ H
  icases H with ⟨HB, -, HR⟩
  isplitl [HB]; · iexact HB
  iexact HR

theorem creds_intro (c : Dev nD) : (Pipeline.launchCred O₀ c : sProp 𝕄) ⊢ creds c := by
  unfold Pipeline.launchCred creds
  iintro H
  ihave H := (waited_on _) $$ H
  icases H with ⟨HB, HR⟩
  isplitl [HB]; · iapply (Entails.of_eq (congrArg cred (launch_cell none c 2 (launch_bar c)))); iexact HB
  iapply (Entails.of_eq (bigSep_congr fun p _ => bigSep_congr fun s _ => congrArg cred (launch_cell (some (true, p, s)) c N (launch_recv c p s))))
  iexact HR

/-! ## The body's obligation -/

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c`, holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 2) t0_0 d)) ∗ (∃ d, stg c cc0_stg1_0 ((dats m 0 c).before (1 : Fin 2) t0_0 d)))
def bodyPost (c : Dev nD) : sProp 𝕄 :=
  iprop(Φ₁ c ∗ (dats m 0 c).owesAt () t0_0.succ ∗ stg c cc0_stg0_0 (xstg m c) ∗ stg c cc0_stg1_0 (outAt m c))

theorem fetch_x (t : Fin cfg0.N) : (cfg0.win (0 : Fin 2)).fetch t = true := by rw [fin_N0 t]; rfl

theorem sound_body (c : Dev nD) : bodyPre m c ⊢ runs c body fun _ => bodyPost m c := by
  unfold bodyPre Φ₀ start Dat.owesAt Pipeline.owesWithin
  rw [show (dats m 0 c).owed t0_0.castSucc = O₀ c from rfl]
  iintro ⟨⟨⟨⟨%K, HK⟩, Hcr, Hlev⟩, Hscr⟩, ⟨%W, %hW, HO⟩, ⟨%d0, %g0, %hg0, Hx⟩, ⟨%d1, %g1, %hg1, Hout⟩⟩
  have hx : g0 = xstg m c := by rw [hg0]; unfold Dat.before; rw [if_pos (fetch_x t0_0)]; rfl
  subst hx
  iapply (wp_body (m := m) (K := K) (c := c) (Q := fun _ => bodyPost m c) W) $$ [HK Hcr Hlev Hscr HO Hx Hout]
  · isplitl [HK]; · iexact HK
    isplitl [Hcr]; · iexact Hcr
    isplitl [Hlev]; · iexact Hlev
    isplitl [Hscr]; · iexact Hscr
    isplitl [HO]; · iexact HO
    isplitl [Hx]; · unfold xPts; iexact Hx
    iexists g1; iexact Hout
  unfold xPts bodyPost Dat.owesAt Pipeline.owesWithin
  rw [show (dats m 0 c).owed t0_0.succ = 0 from rfl]
  iintro ⟨HΦ, Hx, ⟨%W', HO⟩, Hout⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 65536 in
theorem body_obligation (c : Dev nD) : BodyObligation (dats (F := F) m 0 c) (defs₀ (F := F)) 𝒱₀ () Set.univ := fun t => by
  rw [fin_N0 t, bigSep_W, bigSep_W]
  simp only [owns_whole_eq]
  show bodyPre m c ⊢ runs c (cc0_body xM (Memref.isWhole_whole _) oM (Memref.isWhole_whole _) aM (Memref.isWhole_whole _)
    rM (Memref.isWhole_whole _) cc0_scratch2 cc0_scratch3) (fun _ => bodyPost m c)
  rw [body_eq]
  exact sound_body m c

/-! ## The launch's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ scratch
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What window `w`'s array on device `c` holds at the end. -/
def finalA (c : Dev nD) (w : Fin cfg0.W) : Buf (Elt F) ((cfg0.win w).arr.view.loc (c : Thread nD τ)) := (dats m 0 c).arrAt w cfg0.N

/-- Every window's array holds that. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with every counter at zero, every run on the four devices ends, with every window's array at `finalA` and
    every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

theorem finalA_x (c : Dev nD) : finalA m c (0 : Fin 2) = m ((c : Thread nD τ).loc main_arg0) :=
  (dats (F := F) m 0 c).arrAt_in (0 : Fin 2) rfl _

end Cert.ReduceScatter

end
-- ==== Proof.Value.lean ====
/-
# What the kernel computes, over the extended reals

Row block `p` of device `c`'s result is the sum of four blocks of `x`, one of each device: the partial sum starts three
devices back along the row block's direction and every device on the way adds its own block. All four blocks lie at the same
place of their device's part of `x`: rows `256 p …`, columns `512 c …`. The order of the devices depends on the direction and
on `c`; over the extended reals the sum does not depend on it. So device `c`'s result is column block `c` of the sum of `x`
over its first axis, which is what the reference computes.
-/
module

public import proofs.«01_k».proof.Proof.Launch
public import proofs.«01_k».proof.Proof.Gen.ReferenceIdeal.Run
public import Idealize.ShloMosaic.Lib.Layout
public import Idealize.ShloMosaic.Lib.Pointwise
public import Idealize.ShloMosaic.Lib.Pipeline.ValueKit

@[expose] public section

noncomputable section

namespace Cert.ReduceScatter

open Cert.KernelIdeal Cert.KernelIdeal.Gen
open Idealize.ShloMosaic Idealize.ShloMosaic.TcCoe

/-! ## The result's array is what the body leaves -/

/-- The result's array on device `c` ends as `outAt`. -/
theorem finalA_o {F : FTy → Type} [FloatOps F] (m : (ℓ : Loc nD τ sig) → Buf (Elt F) ℓ) (c : Dev nD) :
    finalA m c (1 : Fin 2) = outAt m c := by
  unfold finalA
  refine (dats m 0 c).arrAt_eq_of_after_last (1 : Fin 2) t0_0 (by decide +kernel) _ fun j => ?_
  rfl

/-! ## One block of `x` -/

/-- The place in a device's part of `x` of element `i` of row block `p` and column block `q`. -/
def place (p : Fin 8) (q : Fin 4) (i : S256x512.Idx) : S1x2048x2048.Idx :=
  ix3 0 ⟨256 * p.val + (i 0).val, by have : (i 0).val < 256 := (i 0).isLt; omega⟩
    ⟨512 * q.val + (i 1).val, by have : (i 1).val < 512 := (i 1).isLt; omega⟩

/-- The part of `x` that device `c` holds. -/
abbrev part {F : FTy → Type} [FloatOps F] (m : (ℓ : Loc nD τ sig) → Buf (Elt F) ℓ) (c : Dev nD) : S1x2048x2048.Idx → Elt F .bf16 :=
  m ((c : Thread nD τ).loc main_arg0)

/-- The staged copy is the part itself. -/
theorem staged {F : FTy → Type} [FloatOps F] (m : (ℓ : Loc nD τ sig) → Buf (Elt F) ℓ) (c : Dev nD) : xstg m c = part m c := by
  funext j
  show part m c ((win0_0.blk (0 : Fin 1)).view.emb j) = part m c j
  congr 1
  funext a
  apply Fin.ext
  refine Pipeline.Window.rect_emb_val_of_index_zero win0_0 (0 : Fin 1) a ?_ j
  fin_cases a <;> rfl

/-- What device `c` adds to row block `p` at pass `k`: the block of its part of `x` at column block `chunk c p k`. -/
theorem block_at {F : FTy → Type} [FloatOps F] (m : (ℓ : Loc nD τ sig) → Buf (Elt F) ℓ) (c : Dev nD) (p : Fin 8) (k : Fin 4) (i : S256x512.Idx) :
    asMat (xblk m c p k) i = part m c (place p (chunk c p k) i) := by
  unfold asMat xblk
  rw [staged]
  pointwise
  show part m c ((xRect (offOf c p k) (offOf_inb c p k)).idx (ix3 0 (i 0) (i 1))) = _
  congr 1
  funext a
  apply Fin.ext
  have h := congrFun (offOf_eq c p k) a
  fin_cases a
  · show offOf c p k 0 + 1 * 0 = 0
    exact h
  · show offOf c p k 1 + 1 * (i 0).val = 256 * p.val + (i 0).val
    rw [show offOf c p k 1 = 256 * p.val from h]; omega
  · show offOf c p k 2 + 1 * (i 1).val = 512 * (chunk c p k).val + (i 1).val
    rw [show offOf c p k 2 = 512 * (chunk c p k).val from h]; omega

/-! ## The sum around the ring -/

/-- Along the way of a row block that ends at device `c`, every device adds column block `c`. -/
theorem chunk_way : ∀ (c : Dev nD) (p : Fin 8), chunk c p 3 = c ∧ chunk (src c p) p 2 = c ∧ chunk (src (src c p) p) p 1 = c
    ∧ chunk (src (src (src c p) p) p) p 0 = c := by decide

/-- The way passes every device once. -/
theorem way_all : ∀ (c : Dev nD) (p : Fin 8),
    [src (src (src c p) p) p, src (src c p) p, src c p, c].Perm [(0 : Dev nD), 1, 2, 3] := by decide

variable (m : (ℓ : Loc nD τ sig) → Buf (Elt Ideal) ℓ)

/-- The last partial sum of row block `p` at device `c`: the sum over the devices of their blocks. -/
theorem acc_sum (c : Dev nD) (p : Fin 8) (i : S256x512.Idx) :
    acc m p 3 c i = ∑ d : Fin 4, (part m d (place p c i) : EReal) := by
  obtain ⟨h3, h2, h1, h0⟩ := chunk_way c p
  have b3 := block_at m c p 3 i
  have b2 := block_at m (src c p) p 2 i
  have b1 := block_at m (src (src c p) p) p 1 i
  have b0 := block_at m (src (src (src c p) p) p) p 0 i
  rw [h3] at b3; rw [h2] at b2; rw [h1] at b1; rw [h0] at b0
  have hp := ((way_all c p).map fun d : Dev nD => (part m d (place p c i) : EReal)).sum_eq
  simp only [List.map_cons, List.map_nil, List.sum_cons, List.sum_nil, add_zero] at hp
  rw [Fin.sum_univ_four]
  have e : acc m p 3 c i = ((asMat (xblk m (src (src (src c p) p) p) p 0) i + asMat (xblk m (src (src c p) p) p 1) i : EReal)
      + asMat (xblk m (src c p) p 2) i) + asMat (xblk m c p 3) i := rfl
  rw [e, b0, b1, b2, b3]
  rw [add_assoc, add_assoc, hp, add_assoc, add_assoc]

/-! ## The reference -/

/-- The reference's result from its argument. -/
abbrev refOut (x : FVec Ideal Cert.ReferenceIdeal.S4x2048x2048 .bf16) : FVec Ideal Cert.ReferenceIdeal.S2048x2048 .bf16 :=
  truncf .bf16 (Host.reduceAdd (extf .f32 x Cert.ReferenceIdeal.Gen.bitsLt_bf16_f32) (constant Cert.ReferenceIdeal.S_ .f32 0x00000000#32)
    Cert.ReferenceIdeal.Gen.reducesTo_S4x2048x2048_S2048x2048_d0 Cert.ReferenceIdeal.Gen.h_S_) Cert.ReferenceIdeal.Gen.bitsLt_bf16_f32

/-- An element of it: the sum over the first axis. -/
theorem refOut_apply (x : FVec Ideal Cert.ReferenceIdeal.S4x2048x2048 .bf16) (j : Cert.ReferenceIdeal.S2048x2048.Idx) :
    refOut x j = ∑ k : Fin 4, (x (ix3 k (j 0) (j 1)) : EReal) := by
  unfold refOut
  pointwise

/-- Where the devices' parts of `x` are the blocks of `X` along its first axis, device `c`'s result is column block `c` of the
    reference's. -/
theorem outAt_block (X : FVec Ideal Cert.ReferenceIdeal.S4x2048x2048 .bf16)
    (hX : ∀ d : Dev nD, part m d = Layout.block ⟨3, ![1, 2048, 2048]⟩ ⟨3, ![4, 2048, 2048]⟩ 0 4 d X) (c : Dev nD) :
    (outAt m c : S2048x512.Idx → EReal) = Layout.block ⟨2, ![2048, 512]⟩ ⟨2, ![2048, 2048]⟩ 1 4 c (refOut X) := by
  funext i
  have hi : (i 0).val < 2048 := (i 0).isLt
  show acc m (rowOf i) 3 c (inRow i) = refOut X _
  rw [acc_sum, refOut_apply]
  refine Finset.sum_congr rfl fun d _ => ?_
  rw [hX d]
  show X _ = X _
  congr 1
  funext a
  apply Fin.ext
  rw [Layout.Tiles.idx_val]
  fin_cases a
  · show d.val * 1 + 0 = d.val
    omega
  · show 256 * ((i 0).val / 256) + (i 0).val % 256 = (i 0).val
    omega
  · show 512 * c.val + (i 1).val = c.val * 512 + (i 1).val
    omega

end Cert.ReduceScatter

end
-- ==== Proof.lean ====
/-
# The claims

The run is proved once, over any float values (`Cert.ReduceScatter.run_main`): the kernel and its ideal program have the same
text. Both frames are that run with the result dropped. The value claim is the run over the extended reals, with the result
read as a block of the reference's (`Cert.ReduceScatter.outAt_block`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.KernelIdeal.Skeleton
public import proofs.«01_k».proof.Proof.Gen.KernelIdeal.Launch
public import proofs.«01_k».proof.Proof.Value

@[expose] public section

noncomputable section

namespace Cert.Proof

open Idealize.ShloMosaic Idealize.ShloMosaic.TcCoe Idealize.SL.Sem
open Cert.ReduceScatter (run_main finalA_x finalA_o outAt_block refOut)

/-- The ideal program, over any float values, runs, leaves its argument unchanged and every counter at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c (0 : Fin 2)).trans (finalA_x m c), h.2⟩) (run_main m ρ)

/-- The kernel's body table is the ideal program's: the two bodies are the same text. -/
theorem bodies_same {F : FTy → Type} [FloatOps F] : Cert.Kernel.defs₀ (F := F) = Cert.KernelIdeal.defs₀ (F := F) := by
  unfold Cert.Kernel.defs₀ Cert.KernelIdeal.defs₀
  congr 1
  funext l a
  match l, a with
  | 0, (_, _) => rfl

/-- So are the tables with the pipeline. -/
theorem tables_same {F : FTy → Type} [FloatOps F] : Cert.Kernel.defs (F := F) = Cert.KernelIdeal.defs (F := F) :=
  congrArg (Pipeline.defs Cert.KernelIdeal.pcfgs) bodies_same

/-- Over floats as bit words that run is the kernel's. -/
theorem frame_kernel : Cert.quiescent_Kernel := fun m ρ _ => by
  rw [tables_same]
  exact frame (F := Bits) m ρ

/-- Over the extended reals it is the ideal program's. -/
theorem frame_ideal : Cert.quiescent_KernelIdeal := fun m ρ _ => frame (F := Ideal) m ρ

/-- And the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Device `c`'s result is column block `c` of the reference's. -/
theorem value : Cert.algebraic_KernelIdeal_ReferenceIdeal := fun m ρ m' ρ' _ hX =>
  ⟨refOut (m' (((0 : Dev Cert.ReferenceIdeal.nD).tc : Thread Cert.ReferenceIdeal.nD Cert.ReferenceIdeal.τ).loc Cert.ReferenceIdeal.main_arg0)),
    (θ_run Cert.KernelIdeal.defs _ _).mono (fun _ h c =>
      ⟨((h.1 c (1 : Fin 2)).trans (finalA_o m c)).trans (outAt_block m _ hX c), (h.1 c (0 : Fin 2)).trans (finalA_x m c)⟩) (run_main (F := Ideal) m ρ),
    (θ_run Cert.ReferenceIdeal.defs _ _).mono (fun _ h => h 0) (Cert.ReferenceIdeal.Value.run m' ρ')⟩

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
